-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_args_finite [hPre_args_finite : Cert.Pre_args_finite.Facts] (m : (ℓ : Loc Cert.KernelIdeal.nD Cert.KernelIdeal.τ Cert.KernelIdeal.sig) → Buf (Elt Ideal) ℓ) : Prop :=
  ∀ c : Dev Cert.KernelIdeal.nD,
    (Cert.Pre_args_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_args_finite [hPre_args_finite : Cert.Pre_args_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_args_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_args_finite [hKernelIdeal : Cert.KernelIdeal.Facts] [hPre_args_finite : Cert.Pre_args_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_args_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_args_finite [hReferenceIdeal : Cert.ReferenceIdeal.Facts] [hPre_args_finite : Cert.Pre_args_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_args_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_args_finite [hKernelIdeal : Cert.KernelIdeal.Facts] [hReferenceIdeal : Cert.ReferenceIdeal.Facts] [hPre_args_finite : Cert.Pre_args_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_args_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_args_finite : Cert.Pre_args_finite.Facts),
    quiescent_Kernel (hKernel := hKernel)
    ∧ quiescent_KernelIdeal (hKernelIdeal := hKernelIdeal)
    ∧ quiescent_KernelIdeal_pre_args_finite (hKernelIdeal := hKernelIdeal) (hPre_args_finite := hPre_args_finite)
    ∧ quiescent_ReferenceIdeal (hReferenceIdeal := hReferenceIdeal)
    ∧ quiescent_ReferenceIdeal_pre_args_finite (hReferenceIdeal := hReferenceIdeal) (hPre_args_finite := hPre_args_finite)
    ∧ preserves_Kernel_KernelIdeal
    ∧ algebraic_KernelIdeal_ReferenceIdeal_pre_args_finite (hKernelIdeal := hKernelIdeal) (hReferenceIdeal := hReferenceIdeal) (hPre_args_finite := hPre_args_finite)
-- ==== Pre_args_finite.lean ====
abbrev S4x2048x3072 : Shape := ⟨3, ![4, 2048, 3072]⟩
abbrev S3072 : Shape := ⟨1, ![3072]⟩
abbrev S3072x2048 : Shape := ⟨2, ![3072, 2048]⟩
abbrev S2048 : Shape := ⟨1, ![2048]⟩
abbrev S2048x1024 : Shape := ⟨2, ![2048, 1024]⟩
abbrev S1024 : Shape := ⟨1, ![1024]⟩
abbrev S_ : Shape := ⟨0, ![]⟩

class Facts : Prop where
  bcast_S_S4x2048x3072 : S_.BroadcastsInDim S4x2048x3072 (![] : Fin 0 → Fin S4x2048x3072.rank)
  reducesTo_S4x2048x3072_S_d0_1_2 : S4x2048x3072.ReducesTo [0, 1, 2] S_
  h_S_ : 0 < S_.numel
  bcast_S_S3072 : S_.BroadcastsInDim S3072 (![] : Fin 0 → Fin S3072.rank)
  reducesTo_S3072_S_d0 : S3072.ReducesTo [0] S_
  bcast_S_S3072x2048 : S_.BroadcastsInDim S3072x2048 (![] : Fin 0 → Fin S3072x2048.rank)
  reducesTo_S3072x2048_S_d0_1 : S3072x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_v29 : IVec S_ 1) (main_v32 : IVec S1024 1) (main_c_12 : IVec S_ 1) : IVec S_ 1 :=
  let main_v33 : IVec S_ 1 := (fun x v => Host.reduce IntOp.andi x v reducesTo_S1024_S_d0 h_S_) main_v32 main_c_12
  let main_v34 : IVec S_ 1 := andi main_v29 main_v33
  main_v34

def fn_part1 {F : FTy → Type} [FloatOps F] (main_arg4 : FVec F S2048 .f32) (main_arg5 : FVec F S2048x1024 .f32) (main_arg6 : FVec F S1024 .f32) (main_v14 : IVec S_ 1) (main_v15 : FVec F S3072x2048 .f32) (main_cst_5 : FVec F S_ .f32) : IVec S_ 1 :=
  let main_v16 : FVec F S3072x2048 .f32 := broadcastInDim S3072x2048 ![] bcast_S_S3072x2048 main_cst_5
  let main_v17 : IVec S3072x2048 1 := cmpf .olt main_v15 main_v16
  let main_c_6 : IVec S_ 1 := constantI S_ 1 1#1
  let main_v18 : IVec S_ 1 := (fun x v => Host.reduce IntOp.andi x v reducesTo_S3072x2048_S_d0_1 h_S_) main_v17 main_c_6
  let main_v19 : IVec S_ 1 := andi main_v14 main_v18
  let main_v20 : FVec F S2048 .f32 := Host.absf main_arg4
  let main_cst_7 : FVec F S_ .f32 := constant S_ .f32 0x7F800000#32
  let main_v21 : FVec F S2048 .f32 := broadcastInDim S2048 ![] bcast_S_S2048 main_cst_7
  let main_v22 : IVec S2048 1 := cmpf .olt main_v20 main_v21
  let main_c_8 : IVec S_ 1 := constantI S_ 1 1#1
  let main_v23 : IVec S_ 1 := (fun x v => Host.reduce IntOp.andi x v reducesTo_S2048_S_d0 h_S_) main_v22 main_c_8
  let main_v24 : IVec S_ 1 := andi main_v19 main_v23
  let main_v25 : FVec F S2048x1024 .f32 := Host.absf main_arg5
  let main_cst_9 : FVec F S_ .f32 := constant S_ .f32 0x7F800000#32
  let main_v26 : FVec F S2048x1024 .f32 := broadcastInDim S2048x1024 ![] bcast_S_S2048x1024 main_cst_9
  let main_v27 : IVec S2048x1024 1 := cmpf .olt main_v25 main_v26
  let main_c_10 : IVec S_ 1 := constantI S_ 1 1#1
  let main_v28 : IVec S_ 1 := (fun x v => Host.reduce IntOp.andi x v reducesTo_S2048x1024_S_d0_1 h_S_) main_v27 main_c_10
  let main_v29 : IVec S_ 1 := andi main_v24 main_v28
  let main_v30 : FVec F S1024 .f32 := Host.absf main_arg6
  let main_cst_11 : FVec F S_ .f32 := constant S_ .f32 0x7F800000#32
  let main_v31 : FVec F S1024 .f32 := broadcastInDim S1024 ![] bcast_S_S1024 main_cst_11
  let main_v32 : IVec S1024 1 := cmpf .olt main_v30 main_v31
  let main_c_12 : IVec S_ 1 := constantI S_ 1 1#1
  fn_part2 (F := F) main_v29 main_v32 main_c_12

def fn {F : FTy → Type} [FloatOps F] (main_arg0 : FVec F S4x2048x3072 .f32) (main_arg1 : FVec F S3072 .f32) (main_arg2 : FVec F S3072 .f32) (main_arg3 : FVec F S3072x2048 .f32) (main_arg4 : FVec F S2048 .f32) (main_arg5 : FVec F S2048x1024 .f32) (main_arg6 : FVec F S1024 .f32) (main_arg7 : FVec F S1024 .f32) (main_arg8 : FVec F S1024 .f32) : IVec S_ 1 :=
  let main_v0 : FVec F S4x2048x3072 .f32 := Host.absf main_arg0
  let main_cst : FVec F S_ .f32 := constant S_ .f32 0x7F800000#32
  let main_v1 : FVec F S4x2048x3072 .f32 := broadcastInDim S4x2048x3072 ![] bcast_S_S4x2048x3072 main_cst
  let main_v2 : IVec S4x2048x3072 1 := cmpf .olt main_v0 main_v1
  let main_c : IVec S_ 1 := constantI S_ 1 1#1
  let main_v3 : IVec S_ 1 := (fun x v => Host.reduce IntOp.andi x v reducesTo_S4x2048x3072_S_d0_1_2 h_S_) main_v2 main_c
  let main_c_0 : IVec S_ 1 := constantI S_ 1 1#1
  let main_v4 : IVec S_ 1 := andi main_c_0 main_v3
  let main_v5 : FVec F S3072 .f32 := Host.absf main_arg1
  let main_cst_1 : FVec F S_ .f32 := constant S_ .f32 0x7F800000#32
  let main_v6 : FVec F S3072 .f32 := broadcastInDim S3072 ![] bcast_S_S3072 main_cst_1
  let main_v7 : IVec S3072 1 := cmpf .olt main_v5 main_v6
  let main_c_2 : IVec S_ 1 := constantI S_ 1 1#1
  let main_v8 : IVec S_ 1 := (fun x v => Host.reduce IntOp.andi x v reducesTo_S3072_S_d0 h_S_) main_v7 main_c_2
  let main_v9 : IVec S_ 1 := andi main_v4 main_v8
  let main_v10 : FVec F S3072 .f32 := Host.absf main_arg2
  let main_cst_3 : FVec F S_ .f32 := constant S_ .f32 0x7F800000#32
  let main_v11 : FVec F S3072 .f32 := broadcastInDim S3072 ![] bcast_S_S3072 main_cst_3
  let main_v12 : IVec S3072 1 := cmpf .olt main_v10 main_v11
  let main_c_4 : IVec S_ 1 := constantI S_ 1 1#1
  let main_v13 : IVec S_ 1 := (fun x v => Host.reduce IntOp.andi x v reducesTo_S3072_S_d0 h_S_) main_v12 main_c_4
  let main_v14 : IVec S_ 1 := andi main_v9 main_v13
  let main_v15 : FVec F S3072x2048 .f32 := Host.absf main_arg3
  let main_cst_5 : FVec F S_ .f32 := constant S_ .f32 0x7F800000#32
  fn_part1 (F := F) main_arg4 main_arg5 main_arg6 main_v14 main_v15 main_cst_5
-- ==== Kernel.lean ====
abbrev S4x2048x3072 : Shape := ⟨3, ![4, 2048, 3072]⟩
abbrev S3072 : Shape := ⟨1, ![3072]⟩
abbrev S3072x2048 : Shape := ⟨2, ![3072, 2048]⟩
abbrev S2048 : Shape := ⟨1, ![2048]⟩
abbrev S2048x1024 : Shape := ⟨2, ![2048, 1024]⟩
abbrev S1024 : Shape := ⟨1, ![1024]⟩
abbrev S8192x3072 : Shape := ⟨2, ![8192, 3072]⟩
abbrev S_ : Shape := ⟨0, ![]⟩
abbrev S8x3072 : Shape := ⟨2, ![8, 3072]⟩
abbrev S1 : Shape := ⟨1, ![1]⟩
abbrev S1x3072 : Shape := ⟨2, ![1, 3072]⟩
abbrev S1x2048 : Shape := ⟨2, ![1, 2048]⟩
abbrev S1x1024 : Shape := ⟨2, ![1, 1024]⟩
abbrev S8192x1024 : Shape := ⟨2, ![8192, 1024]⟩
abbrev S512x3072 : Shape := ⟨2, ![512, 3072]⟩
abbrev S512x1024 : Shape := ⟨2, ![512, 1024]⟩
abbrev S8x2048 : Shape := ⟨2, ![8, 2048]⟩
abbrev S2x512x2048 : Shape := ⟨3, ![2, 512, 2048]⟩
abbrev S2x512x1 : Shape := ⟨3, ![2, 512, 1]⟩
abbrev S512 : Shape := ⟨1, ![512]⟩
abbrev S512x1 : Shape := ⟨2, ![512, 1]⟩
abbrev S1x512x1 : Shape := ⟨3, ![1, 512, 1]⟩
abbrev S512x2048 : Shape := ⟨2, ![512, 2048]⟩
abbrev S1x512x2048 : Shape := ⟨3, ![1, 512, 2048]⟩

abbrev nBuf : Space → Nat
  | .hbm => 27
  | .vmem => 17
  | .smem => 0
  | _ => 0

abbrev bufTy : (tb : Table) → Fin (tcTables nBuf tb) → BufTy
  | .hbm, ⟨0, _⟩ => ⟨S4x2048x3072, .f32⟩
  | .hbm, ⟨1, _⟩ => ⟨S3072, .f32⟩
  | .hbm, ⟨2, _⟩ => ⟨S3072, .f32⟩
  | .hbm, ⟨3, _⟩ => ⟨S3072x2048, .f32⟩
  | .hbm, ⟨4, _⟩ => ⟨S2048, .f32⟩
  | .hbm, ⟨5, _⟩ => ⟨S2048x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S8192x3072, .f32⟩
  | .hbm, ⟨10, _⟩ => ⟨S_, .bf16⟩
  | .hbm, ⟨11, _⟩ => ⟨S8x3072, .bf16⟩
  | .hbm, ⟨12, _⟩ => ⟨S3072, .bf16⟩
  | .hbm, ⟨13, _⟩ => ⟨S_, .i32⟩
  | .hbm, ⟨14, _⟩ => ⟨S1, .i32⟩
  | .hbm, ⟨15, _⟩ => ⟨S8x3072, .bf16⟩
  | .hbm, ⟨16, _⟩ => ⟨S3072, .bf16⟩
  | .hbm, ⟨17, _⟩ => ⟨S_, .i32⟩
  | .hbm, ⟨18, _⟩ => ⟨S1, .i32⟩
  | .hbm, ⟨19, _⟩ => ⟨S8x3072, .bf16⟩
  | .hbm, ⟨20, _⟩ => ⟨S1x3072, .f32⟩
  | .hbm, ⟨21, _⟩ => ⟨S3072x2048, .bf16⟩
  | .hbm, ⟨22, _⟩ => ⟨S1x2048, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S8192x1024, .f32⟩
  | .local _ .vmem, ⟨0, _⟩ => ⟨S512x3072, .f32⟩
  | .local _ .vmem, ⟨1, _⟩ => ⟨S512x3072, .f32⟩
  | .local _ .vmem, ⟨2, _⟩ => ⟨S1x3072, .f32⟩
  | .local _ .vmem, ⟨3, _⟩ => ⟨S8x3072, .bf16⟩
  | .local _ .vmem, ⟨4, _⟩ => ⟨S3072x2048, .bf16⟩
  | .local _ .vmem, ⟨5, _⟩ => ⟨S1x2048, .f32⟩
  | .local _ .vmem, ⟨6, _⟩ => ⟨S2048x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S2048x1024, .bf16⟩
  | .local _ .vmem, ⟨13, _⟩ => ⟨S8x2048, .f32⟩
  | .local _ .vmem, ⟨14, _⟩ => ⟨S2x512x2048, .f32⟩
  | .local _ .vmem, ⟨15, _⟩ => ⟨S2x512x1, .f32⟩
  | .local _ .vmem, ⟨16, _⟩ => ⟨S2x512x1, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![17], ![false]⟩

def k0_off1 (i : grid0.Coords) : Fin 3 → Nat :=
  let arg0 : BitVec 32 := BitVec.ofNat 32 (i 0).val
  let c2_i32 : BitVec 32 := 2#32
  let v0 : BitVec 32 := Scalar.remsi arg0 c2_i32
  let v20 : Index := Scalar.indexCast v0
  let c0_6 : Index := 0#32
  let c0_7 : Index := 0#32
  ![v20.toNat, 0, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v37 : Index := Scalar.indexCast v0
  let c0_15 : Index := 0#32
  let c0_16 : Index := 0#32
  ![v37.toNat, 0, 0]
def k0_off3 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v41 : BitVec 32 := Scalar.subi c1_i32 v0
  let v42 : Index := Scalar.indexCast v41
  let c0_17 : Index := 0#32
  let c0_18 : Index := 0#32
  ![v42.toNat, 0, 0]
def k0_off4 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v41 : BitVec 32 := Scalar.subi c1_i32 v0
  let v45 : Index := Scalar.indexCast v41
  let c0_19 : Index := 0#32
  let c0_20 : Index := 0#32
  ![v45.toNat, 0, 0]
def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4x2048x3072 : Shape := ⟨3, ![4, 2048, 3072]⟩
abbrev S3072 : Shape := ⟨1, ![3072]⟩
abbrev S3072x2048 : Shape := ⟨2, ![3072, 2048]⟩
abbrev S2048 : Shape := ⟨1, ![2048]⟩
abbrev S2048x1024 : Shape := ⟨2, ![2048, 1024]⟩
abbrev S1024 : Shape := ⟨1, ![1024]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x3072 : Shape := ⟨2, ![1, 3072]⟩
abbrev S8192x2048 : Shape := ⟨2, ![8192, 2048]⟩
abbrev S1x2048 : Shape := ⟨2, ![1, 2048]⟩
abbrev S8192x1024 : Shape := ⟨2, ![8192, 1024]⟩
abbrev S1x1024 : Shape := ⟨2, ![1, 1024]⟩

abbrev nBuf : Space → Nat
  | .hbm => 117
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S3072, .f32⟩
  | .hbm, ⟨2, _⟩ => ⟨S3072, .f32⟩
  | .hbm, ⟨3, _⟩ => ⟨S3072x2048, .f32⟩
  | .hbm, ⟨4, _⟩ => ⟨S2048, .f32⟩
  | .hbm, ⟨5, _⟩ => ⟨S2048x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S8192x3072, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .i32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x3072, .f32⟩
  | .hbm, ⟨41, _⟩ => ⟨S8192x3072, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x3072, .f32⟩
  | .hbm, ⟨47, _⟩ => ⟨S8192x3072, .f32⟩
  | .hbm, ⟨48, _⟩ => ⟨S1x3072, .f32⟩
  | .hbm, ⟨49, _⟩ => ⟨S8192x3072, .f32⟩
  | .hbm, ⟨50, _⟩ => ⟨S8192x3072, .f32⟩
  | .hbm, ⟨51, _⟩ => ⟨S1x3072, .f32⟩
  | .hbm, ⟨52, _⟩ => ⟨S8192x3072, .f32⟩
  | .hbm, ⟨53, _⟩ => ⟨S8192x3072, .f32⟩
  | .hbm, ⟨54, _⟩ => ⟨S8192x2048, .f32⟩
  | .hbm, ⟨55, _⟩ => ⟨S1x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S_, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .i32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S_, .i1⟩
  | .hbm, ⟨99, _⟩ => ⟨S_, .f32⟩
  | .hbm, ⟨100, _⟩ => ⟨S_, .f32⟩
  | .hbm, ⟨101, _⟩ => ⟨S8192x1, .f32⟩
  | .hbm, ⟨102, _⟩ => ⟨S8192x1, .f32⟩
  | .hbm, ⟨103, _⟩ => ⟨S8192x1024, .f32⟩
  | .hbm, ⟨104, _⟩ => ⟨S8192x1024, .f32⟩
  | .hbm, ⟨105, _⟩ => ⟨S_, .f32⟩
  | .hbm, ⟨106, _⟩ => ⟨S8192x1, .f32⟩
  | .hbm, ⟨107, _⟩ => ⟨S8192x1, .f32⟩
  | .hbm, ⟨108, _⟩ => ⟨S8192x1, .f32⟩
  | .hbm, ⟨109, _⟩ => ⟨S8192x1024, .f32⟩
  | .hbm, ⟨110, _⟩ => ⟨S8192x1024, .f32⟩
  | .hbm, ⟨111, _⟩ => ⟨S1x1024, .f32⟩
  | .hbm, ⟨112, _⟩ => ⟨S8192x1024, .f32⟩
  | .hbm, ⟨113, _⟩ => ⟨S8192x1024, .f32⟩
  | .hbm, ⟨114, _⟩ => ⟨S1x1024, .f32⟩
  | .hbm, ⟨115, _⟩ => ⟨S8192x1024, .f32⟩
  | .hbm, ⟨116, _⟩ => ⟨S8192x1024, .f32⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_cst_1 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_2 : Ref sig .tc := ⟨.hbm, 58, rfl⟩
abbrev main_v23 : Ref sig .tc := ⟨.hbm, 59, rfl⟩
abbrev main_v24 : Ref sig .tc := ⟨.hbm, 60, rfl⟩
abbrev main_cst_3 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_4 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_5 : Ref sig .tc := ⟨.hbm, 73, rfl⟩
abbrev main_v35 : Ref sig .tc := ⟨.hbm, 74, rfl⟩
abbrev main_v36 : Ref sig .tc := ⟨.hbm, 75, rfl⟩
abbrev main_cst_6 : Ref sig .tc := ⟨.hbm, 76, rfl⟩
abbrev main_v37 : Ref sig .tc := ⟨.hbm, 77, rfl⟩
abbrev main_v38 : Ref sig .tc := ⟨.hbm, 78, rfl⟩
abbrev main_c_7 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_cst_1 : Ref sig .tc := ⟨.hbm, 90, rfl⟩
abbrev main_call1_v8 : Ref sig .tc := ⟨.hbm, 91, rfl⟩
abbrev main_call1_cst_2 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_v12 : Ref sig .tc := ⟨.hbm, 96, rfl⟩
abbrev main_call1_cst_3 : Ref sig .tc := ⟨.hbm, 97, rfl⟩
abbrev main_call1_v13 : Ref sig .tc := ⟨.hbm, 98, rfl⟩
abbrev main_call1_cst_4 : Ref sig .tc := ⟨.hbm, 99, rfl⟩
abbrev main_call1_call0_v0 : Ref sig .tc := ⟨.hbm, 100, rfl⟩
abbrev main_call1_call0_v1 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_cst_8 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩

abbrev nD : Nat := 1
abbrev τ : Topo := Topo.v7x

variable {F : FTy → Type} [FloatOps F]
-- ==== Proof.Ker.Base.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body fills the two buffers that stay: it holds at the first grid point. -/
abbrev cond0_0 (i : grid0.Coords) : Prop :=
  (Scalar.cmpi .ne (Scalar.extui (Scalar.cmpi .eq (BitVec.ofNat 32 (i 0).val) 0#32)) 0#32) = 1#1

/-- A load apart from the one store made before it reads what the view read before the store. -/
theorem readAt_store_apart {sig : RefSig} {κ : Kind} {sp : Space} {s : Shape} {e : EltTy} {Val : EltTy → Type}
    (v : View sig κ sp s e) (f : v.ty.Contents Val) {off off' size size' : Fin s.rank → ℕ}
    (inb : ∀ a, off a + size a ≤ s.size a) (inb' : ∀ a, off' a + size' a ≤ s.size a)
    (w : (Rect.unit off size inb).shape.Idx → Val e) (a : Fin s.rank)
    (ha : off' a + size' a ≤ off a ∨ off a + size a ≤ off' a) :
    v.readAt Val (Rect.unit off' size' inb').toLoadRect (v.writes Val f [⟨Rect.unit off size inb, w⟩])
      = VecWindow.window (v.read Val f) off' size' inb' := by
  rw [View.readAt_unit v _ inb' rfl inb', View.read_writes_cons_put v f inb w [] rfl,
    VecWindow.window_put_of_disjoint _ _ _ _ _ _ _ a ha, View.writes_nil]

/-- After one store the view reads the stored slab put over what it read before. -/
theorem read_store {sig : RefSig} {κ : Kind} {sp : Space} {s : Shape} {e : EltTy} {Val : EltTy → Type}
    (v : View sig κ sp s e) (f : v.ty.Contents Val) {off size : Fin s.rank → ℕ}
    (inb : ∀ a, off a + size a ≤ s.size a) (w : (Rect.unit off size inb).shape.Idx → Val e) :
    v.read Val (v.writes Val f [⟨Rect.unit off size inb, w⟩]) = VecWindow.put (v.read Val f) off size w := by
  rw [View.read_writes_cons_put v f inb w [] rfl, View.writes_nil]

/-- A load reads a window of what the view reads. -/
theorem readAt_window {sig : RefSig} {κ : Kind} {sp : Space} {s : Shape} {e : EltTy} {Val : EltTy → Type}
    (v : View sig κ sp s e) (f : v.ty.Contents Val) {off size : Fin s.rank → ℕ} (inb : ∀ a, off a + size a ≤ s.size a) :
    v.readAt Val (Rect.unit off size inb).toLoadRect f = VecWindow.window (v.read Val f) off size inb := rfl

/-- The slot the body reads of the buffer of products is not the slot it fills. -/
theorem off3_apart (i : grid0.Coords) :
    k0_off3 i 0 + S1x512x2048.size 0 ≤ k0_off2 i 0 ∨ k0_off2 i 0 + S1x512x2048.size 0 ≤ k0_off3 i 0 := by
  rw [k0_off3_eq, k0_off2_eq]
  show 1 - (i 0).val % 2 + 1 ≤ (i 0).val % 2 ∨ (i 0).val % 2 + 1 ≤ 1 - (i 0).val % 2
  omega

/-- The slot the body reads of the two buffers of row statistics is not the slot it fills. -/
theorem off4_apart (i : grid0.Coords) :
    k0_off4 i 0 + S1x512x1.size 0 ≤ k0_off1 i 0 ∨ k0_off1 i 0 + S1x512x1.size 0 ≤ k0_off4 i 0 := by
  rw [k0_off4_eq, k0_off1_eq]
  show 1 - (i 0).val % 2 + 1 ≤ (i 0).val % 2 ∨ (i 0).val % 2 + 1 ≤ 1 - (i 0).val % 2
  omega

/-- What the body leaves in the result's block: the second half of the function, on the slot it reads. -/
def outVal (i : grid0.Coords) (x4 : Vec F S1x2048 .f32) (x6 x7 x8 : Vec F S1x1024 .f32) (wb : Vec F S2048x1024 .bf16) (ax : Vec F S8x2048 .f32)
    (ys : Vec F S2x512x2048 .f32) (ss ms : Vec F S2x512x1 .f32) : FVec F S512x1024 .f32 :=
  k0_pay1 (k0_pay11 (VecWindow.window ys (k0_off3 i) S1x512x2048.size (k0_off3_inb i)) (VecWindow.window ss (k0_off4 i) S1x512x1.size (k0_off4_inb i))
    (VecWindow.window ms (k0_off4 i) S1x512x1.size (k0_off4_inb i)) (VecWindow.window ax ![0, 0] S1x2048.size inb_S8x2048_S1x2048_0_0)
    (VecWindow.window ax ![1, 0] S1x2048.size inb_S8x2048_S1x2048_1_0) x4 wb) x6 x7 x8

end Cert.KernelIdeal.Own

end
-- ==== Proof.Ker.RunA.lean ====
module

public import proofs.«01_k».proof.Proof.Ker.Base
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first grid point the body fills the two buffers that stay from the second layer's weights and the two row vectors, and its slots of the three
    buffers that alternate; the block of the result holds something. -/
theorem run_first (c : Dev nD) (i : grid0.Coords)
    (arg1 : Memref sig .tc .vmem S512x3072 .f32) (harg1 : arg1.IsWhole)
    (arg2 : Memref sig .tc .vmem S1x3072 .f32) (harg2 : arg2.IsWhole)
    (arg3 : Memref sig .tc .vmem S8x3072 .bf16) (harg3 : arg3.IsWhole)
    (arg4 : Memref sig .tc .vmem S3072x2048 .bf16) (harg4 : arg4.IsWhole)
    (arg5 : Memref sig .tc .vmem S1x2048 .f32) (harg5 : arg5.IsWhole)
    (arg6 : Memref sig .tc .vmem S2048x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S512x1024 .f32) (harg10 : arg10.IsWhole)
    (arg11 : Memref sig .tc .vmem S2048x1024 .bf16) (harg11 : arg11.IsWhole)
    (arg12 : Memref sig .tc .vmem S8x2048 .f32) (harg12 : arg12.IsWhole)
    (arg13 : Memref sig .tc .vmem S2x512x2048 .f32) (harg13 : arg13.IsWhole)
    (arg14 : Memref sig .tc .vmem S2x512x1 .f32) (harg14 : arg14.IsWhole)
    (arg15 : Memref sig .tc .vmem S2x512x1 .f32) (harg15 : arg15.IsWhole)
    (hc0 : cond0_0 i)
    (x0 : Vec F S512x3072 .f32) (x1 : Vec F S1x3072 .f32) (x2 : Vec F S8x3072 .bf16) (x3 : Vec F S3072x2048 .bf16) (x4 : Vec F S1x2048 .f32) (x5 : Vec F S2048x1024 .f32) (x6 : Vec F S1x1024 .f32) (x7 : Vec F S1x1024 .f32) (x8 : Vec F S1x1024 .f32)
    (wb : Vec F S2048x1024 .bf16) (ax : Vec F S8x2048 .f32) (ys : Vec F S2x512x2048 .f32) (ss : Vec F S2x512x1 .f32) (ms : Vec F S2x512x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare wb ∗ owns (c : Thread nD τ) arg12 fullShare ax ∗ owns (c : Thread nD τ) arg13 fullShare ys ∗ owns (c : Thread nD τ) arg14 fullShare ss ∗ owns (c : Thread nD τ) arg15 fullShare ms
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare (k0_pay2 x5) ∗ owns (c : Thread nD τ) arg12 fullShare (k0_pay3 x2 x3) ∗ owns (c : Thread nD τ) arg13 fullShare (VecWindow.put ys (k0_off2 i) S1x512x2048.size (k0_pay10 (k0_pay9 x0 x1 x3))) ∗ owns (c : Thread nD τ) arg14 fullShare (VecWindow.put ss (k0_off1 i) S1x512x1.size (k0_pay7 x0)) ∗ owns (c : Thread nD τ) arg15 fullShare (VecWindow.put ms (k0_off1 i) S1x512x1.size (k0_pay8 x0))) -∗ K ⟨⟩))
      ⊢ wp frame (wpE (defs₀ (F := F)) Variants.none c none) E (cc0__adapter_block i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__adapter_block_eq_skeleton]; unfold cc0__adapter_block_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hs0, HS0⟩, ⟨%fs1, %hs1, HS1⟩, ⟨%fs2, %hs2, HS2⟩, ⟨%fs3, %hs3, HS3⟩, ⟨%fs4, %hs4, HS4⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  obtain rfl := harg11.eq_unread hs0; obtain rfl := harg12.eq_unread hs1; obtain rfl := harg13.eq_unread hs2; obtain rfl := harg14.eq_unread hs3; obtain rfl := harg15.eq_unread hs4
  have e1 : View.readAt (Elt F) arg1.view (Rect.unit (s := S512x3072) ![0, 0] ![512, 3072] inb_S512x3072_S512x3072_0_0).toLoadRect (harg1.unread x0) = x0 := (View.readAt_full _ _ _).trans (harg1.read_unread _)
  have e2 : View.readAt (Elt F) arg2.view (Rect.unit (s := S1x3072) ![0, 0] ![1, 3072] inb_S1x3072_S1x3072_0_0).toLoadRect (harg2.unread x1) = x1 := (View.readAt_full _ _ _).trans (harg2.read_unread _)
  have e3 : View.readAt (Elt F) arg3.view (Rect.unit (s := S8x3072) ![0, 0] ![8, 3072] inb_S8x3072_S8x3072_0_0).toLoadRect (harg3.unread x2) = x2 := (View.readAt_full _ _ _).trans (harg3.read_unread _)
  have e4 : View.readAt (Elt F) arg4.view (Rect.unit (s := S3072x2048) ![0, 0] ![3072, 2048] inb_S3072x2048_S3072x2048_0_0).toLoadRect (harg4.unread x3) = x3 := (View.readAt_full _ _ _).trans (harg4.read_unread _)
  have e6 : View.readAt (Elt F) arg6.view (Rect.unit (s := S2048x1024) ![0, 0] ![2048, 1024] inb_S2048x1024_S2048x1024_0_0).toLoadRect (harg6.unread x5) = x5 := (View.readAt_full _ _ _).trans (harg6.read_unread _)
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _, _; isplitr; swap
    · iexact H9
    · ipureintro; exact rfl
  isplitl [HS0]
  · iexists _; isplitr; swap
    · iexact HS0
    · ipureintro
      unfold run_first.sl.HS0_1
      rw [View.read_writes_full]
  isplitl [HS1]
  · iexists _; isplitr; swap
    · iexact HS1
    · ipureintro
      unfold run_first.sl.HS1_1
      rw [View.read_writes_full]
  isplitl [HS2]
  · iexists _; isplitr; swap
    · iexact HS2
    · ipureintro
      unfold run_first.sl.HS2_1
      rw [read_store, harg13.read_unread]
  isplitl [HS3]
  · iexists _; isplitr; swap
    · iexact HS3
    · ipureintro
      unfold run_first.sl.HS3_1
      rw [read_store, harg14.read_unread]
  · iexists _; isplitr; swap
    · iexact HS4
    · ipureintro
      unfold run_first.sl.HS4_1
      rw [read_store, harg15.read_unread]

end Cert.KernelIdeal.Own

end
-- ==== Proof.Ker.RunB.lean ====
module

public import proofs.«01_k».proof.Proof.Ker.RunA
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At every later grid point the body leaves the two buffers that stay as they were, fills its slots of the three buffers that alternate from the block of rows it
    read, and stores the second half of the function, computed from the slots filled one point before. -/
theorem run_later (c : Dev nD) (i : grid0.Coords)
    (arg1 : Memref sig .tc .vmem S512x3072 .f32) (harg1 : arg1.IsWhole)
    (arg2 : Memref sig .tc .vmem S1x3072 .f32) (harg2 : arg2.IsWhole)
    (arg3 : Memref sig .tc .vmem S8x3072 .bf16) (harg3 : arg3.IsWhole)
    (arg4 : Memref sig .tc .vmem S3072x2048 .bf16) (harg4 : arg4.IsWhole)
    (arg5 : Memref sig .tc .vmem S1x2048 .f32) (harg5 : arg5.IsWhole)
    (arg6 : Memref sig .tc .vmem S2048x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S512x1024 .f32) (harg10 : arg10.IsWhole)
    (arg11 : Memref sig .tc .vmem S2048x1024 .bf16) (harg11 : arg11.IsWhole)
    (arg12 : Memref sig .tc .vmem S8x2048 .f32) (harg12 : arg12.IsWhole)
    (arg13 : Memref sig .tc .vmem S2x512x2048 .f32) (harg13 : arg13.IsWhole)
    (arg14 : Memref sig .tc .vmem S2x512x1 .f32) (harg14 : arg14.IsWhole)
    (arg15 : Memref sig .tc .vmem S2x512x1 .f32) (harg15 : arg15.IsWhole)
    (hc0 : ¬cond0_0 i)
    (x0 : Vec F S512x3072 .f32) (x1 : Vec F S1x3072 .f32) (x2 : Vec F S8x3072 .bf16) (x3 : Vec F S3072x2048 .bf16) (x4 : Vec F S1x2048 .f32) (x5 : Vec F S2048x1024 .f32) (x6 : Vec F S1x1024 .f32) (x7 : Vec F S1x1024 .f32) (x8 : Vec F S1x1024 .f32)
    (wb : Vec F S2048x1024 .bf16) (ax : Vec F S8x2048 .f32) (ys : Vec F S2x512x2048 .f32) (ss : Vec F S2x512x1 .f32) (ms : Vec F S2x512x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare wb ∗ owns (c : Thread nD τ) arg12 fullShare ax ∗ owns (c : Thread nD τ) arg13 fullShare ys ∗ owns (c : Thread nD τ) arg14 fullShare ss ∗ owns (c : Thread nD τ) arg15 fullShare ms
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outVal i x4 x6 x7 x8 wb ax ys ss ms) ∗ owns (c : Thread nD τ) arg11 fullShare wb ∗ owns (c : Thread nD τ) arg12 fullShare ax ∗ owns (c : Thread nD τ) arg13 fullShare (VecWindow.put ys (k0_off2 i) S1x512x2048.size (k0_pay10 (k0_pay9 x0 x1 x3))) ∗ owns (c : Thread nD τ) arg14 fullShare (VecWindow.put ss (k0_off1 i) S1x512x1.size (k0_pay7 x0)) ∗ owns (c : Thread nD τ) arg15 fullShare (VecWindow.put ms (k0_off1 i) S1x512x1.size (k0_pay8 x0))) -∗ K ⟨⟩))
      ⊢ wp frame (wpE (defs₀ (F := F)) Variants.none c none) E (cc0__adapter_block i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__adapter_block_eq_skeleton]; unfold cc0__adapter_block_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hs0, HS0⟩, ⟨%fs1, %hs1, HS1⟩, ⟨%fs2, %hs2, HS2⟩, ⟨%fs3, %hs3, HS3⟩, ⟨%fs4, %hs4, HS4⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  obtain rfl := harg11.eq_unread hs0; obtain rfl := harg12.eq_unread hs1; obtain rfl := harg13.eq_unread hs2; obtain rfl := harg14.eq_unread hs3; obtain rfl := harg15.eq_unread hs4
  have e1 : View.readAt (Elt F) arg1.view (Rect.unit (s := S512x3072) ![0, 0] ![512, 3072] inb_S512x3072_S512x3072_0_0).toLoadRect (harg1.unread x0) = x0 := (View.readAt_full _ _ _).trans (harg1.read_unread _)
  have e2 : View.readAt (Elt F) arg2.view (Rect.unit (s := S1x3072) ![0, 0] ![1, 3072] inb_S1x3072_S1x3072_0_0).toLoadRect (harg2.unread x1) = x1 := (View.readAt_full _ _ _).trans (harg2.read_unread _)
  have e4 : View.readAt (Elt F) arg4.view (Rect.unit (s := S3072x2048) ![0, 0] ![3072, 2048] inb_S3072x2048_S3072x2048_0_0).toLoadRect (harg4.unread x3) = x3 := (View.readAt_full _ _ _).trans (harg4.read_unread _)
  have e5 : View.readAt (Elt F) arg5.view (Rect.unit (s := S1x2048) ![0, 0] ![1, 2048] inb_S1x2048_S1x2048_0_0).toLoadRect (harg5.unread x4) = x4 := (View.readAt_full _ _ _).trans (harg5.read_unread _)
  have e7 : View.readAt (Elt F) arg7.view (Rect.unit (s := S1x1024) ![0, 0] ![1, 1024] inb_S1x1024_S1x1024_0_0).toLoadRect (harg7.unread x6) = x6 := (View.readAt_full _ _ _).trans (harg7.read_unread _)
  have e8 : View.readAt (Elt F) arg8.view (Rect.unit (s := S1x1024) ![0, 0] ![1, 1024] inb_S1x1024_S1x1024_0_0).toLoadRect (harg8.unread x7) = x7 := (View.readAt_full _ _ _).trans (harg8.read_unread _)
  have e9 : View.readAt (Elt F) arg9.view (Rect.unit (s := S1x1024) ![0, 0] ![1, 1024] inb_S1x1024_S1x1024_0_0).toLoadRect (harg9.unread x8) = x8 := (View.readAt_full _ _ _).trans (harg9.read_unread _)
  have e11 : View.readAt (Elt F) arg11.view (Rect.unit (s := S2048x1024) ![0, 0] ![2048, 1024] inb_S2048x1024_S2048x1024_0_0).toLoadRect (harg11.unread wb) = wb := (View.readAt_full _ _ _).trans (harg11.read_unread _)
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap
    · iexact H9
    · ipureintro
      rw [View.read_writes_full]
      unfold run_later.sl.r run_later.sl.HS2_1 run_later.sl.HS3_1 run_later.sl.HS4_1
      rw [readAt_store_apart arg13.view _ _ _ _ 0 (off3_apart i), readAt_store_apart arg14.view _ _ _ _ 0 (off4_apart i), readAt_store_apart arg15.view _ _ _ _ 0 (off4_apart i)]
      rw [harg13.read_unread, harg14.read_unread, harg15.read_unread]
      rw [readAt_window arg12.view _ inb_S8x2048_S1x2048_0_0, readAt_window arg12.view _ inb_S8x2048_S1x2048_1_0, harg12.read_unread]
      rfl
  isplitl [HS0]
  · iexists _; isplitr; · ipureintro; exact harg11.read_unread _
    iexact HS0
  isplitl [HS1]
  · iexists _; isplitr; · ipureintro; exact harg12.read_unread _
    iexact HS1
  isplitl [HS2]
  · iexists _; isplitr; swap
    · iexact HS2
    · ipureintro
      unfold run_later.sl.HS2_1
      rw [read_store, harg13.read_unread]
  isplitl [HS3]
  · iexists _; isplitr; swap
    · iexact HS3
    · ipureintro
      unfold run_later.sl.HS3_1
      rw [read_store, harg14.read_unread]
  · iexists _; isplitr; swap
    · iexact HS4
    · ipureintro
      unfold run_later.sl.HS4_1
      rw [read_store, harg15.read_unread]

end Cert.KernelIdeal.Own

end
-- ==== Proof.Ker.Data.lean ====
module

public import proofs.«01_k».proof.Proof.Ker.RunB
public import proofs.«01_k».proof.Proof.Gen.KernelIdeal.Frame
public import Idealize.ShloMosaic.Lib.Pipeline.DatRel
public import Idealize.ShloMosaic.Lib.Pipeline.ArrRel

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition holds at the first grid point only. -/
theorem hcond0_0 : ∀ t : Fin cfg0.N, cond0_0 (grid0.coords t) ↔ t.val = 0 :=
  (fun t => by
    have ht : t.val < 17 := Nat.lt_of_lt_of_eq t.isLt N_0
    have e0 : (grid0.coords t 0).val = t.val / 1 % 17 := Pipeline.Grid.coords_val t 0 (by decide) rfl
    simp only [cond0_0, e0]
    word_cmp
   : ∀ t : Fin grid0.N, cond0_0 (grid0.coords t) ↔ t.val = 0)

/-- The point's coordinate is its number. -/
theorem coords_val0 (t : Fin cfg0.N) : (grid0.coords t 0).val = t.val := by
  have ht : t.val < 17 := Nat.lt_of_lt_of_eq t.isLt N_0
  have e0 : (grid0.coords t 0).val = t.val / 1 % 17 := Pipeline.Grid.coords_val t 0 (by decide) rfl
  rw [e0]; omega

/-- The first grid point. -/
def t0 : Fin cfg0.N := ⟨0, by rw [show cfg0.N = 17 from N_0]; decide⟩

/-- The second layer's weights as the body keeps them. -/
def keptW (c : Dev nD) : Vec F S2048x1024 .bf16 := k0_pay2 (iblk m c 5 t0)
/-- The products of the two row vectors with the first layer's weights, as the body keeps them. -/
def keptA (c : Dev nD) : Vec F S8x2048 .f32 := k0_pay3 (iblk m c 2 t0) (iblk m c 3 t0)
/-- The product of the scaled rows of point `u`'s block with the first layer's weights, as stored. -/
def slotY (c : Dev nD) (u : Fin cfg0.N) : Vec F S1x512x2048 .f32 := k0_pay10 (k0_pay9 (iblk m c 0 u) (iblk m c 1 u) (iblk m c 3 u))
/-- The reciprocal deviations of point `u`'s rows, as stored. -/
def slotS (c : Dev nD) (u : Fin cfg0.N) : Vec F S1x512x1 .f32 := k0_pay7 (iblk m c 0 u)
/-- The same times the rows' means, as stored. -/
def slotM (c : Dev nD) (u : Fin cfg0.N) : Vec F S1x512x1 .f32 := k0_pay8 (iblk m c 0 u)

/-- What the five buffers of the kernel's own hold before point `n`, `n` not the first: the two that stay, and the slots filled by the point before. -/
def Carry (c : Dev nD) (n : ℕ) (wb : Vec F S2048x1024 .bf16) (ax : Vec F S8x2048 .f32) (ys : Vec F S2x512x2048 .f32) (ss ms : Vec F S2x512x1 .f32) : Prop :=
  wb = keptW m c ∧ ax = keptA m c ∧ ∀ u : Fin cfg0.N, u.val + 1 = n →
    VecWindow.window ys (k0_off2 (grid0.coords u)) S1x512x2048.size (k0_off2_inb (grid0.coords u)) = slotY m c u
    ∧ VecWindow.window ss (k0_off1 (grid0.coords u)) S1x512x1.size (k0_off1_inb (grid0.coords u)) = slotS m c u
    ∧ VecWindow.window ms (k0_off1 (grid0.coords u)) S1x512x1.size (k0_off1_inb (grid0.coords u)) = slotM m c u

/-- The block of the result computed at point `t` from the slots filled at point `u`. -/
def blkOut (c : Dev nD) (u t : Fin cfg0.N) : Vec F S512x1024 .f32 :=
  k0_pay1 (k0_pay11 (slotY m c u) (slotS m c u) (slotM m c u) (VecWindow.window (keptA m c) ![0, 0] S1x2048.size inb_S8x2048_S1x2048_0_0)
    (VecWindow.window (keptA m c) ![1, 0] S1x2048.size inb_S8x2048_S1x2048_1_0) (iblk m c 4 t) (keptW m c)) (iblk m c 6 t) (iblk m c 7 t) (iblk m c 8 t)

/-- The slot read at a point is the slot filled at the point before. -/
theorem slot_prev2 (u t : Fin cfg0.N) (h : u.val + 1 = t.val) : k0_off3 (grid0.coords t) = k0_off2 (grid0.coords u) := by
  rw [k0_off3_eq, k0_off2_eq, coords_val0, coords_val0, ← h]
  have e : 1 - (u.val + 1) % 2 = u.val % 2 := by omega
  rw [e]
/-- The same of the two buffers of row statistics. -/
theorem slot_prev1 (u t : Fin cfg0.N) (h : u.val + 1 = t.val) : k0_off4 (grid0.coords t) = k0_off1 (grid0.coords u) := by
  rw [k0_off4_eq, k0_off1_eq, coords_val0, coords_val0, ← h]
  have e : 1 - (u.val + 1) % 2 = u.val % 2 := by omega
  rw [e]

/-- Equal offsets give equal windows. -/
theorem window_congr {α : Type} {s : Shape} (x : s.Idx → α) {off off' size : Fin s.rank → ℕ} (h : off = off') (inb : ∀ a, off a + size a ≤ s.size a)
    (inb' : ∀ a, off' a + size a ≤ s.size a) : VecWindow.window x off size inb = VecWindow.window x off' size inb' := by
  subst h; rfl

/-- On what the buffers hold before a later point, the body's second half computes that point's block of the result. -/
theorem outVal_of_carry (c : Dev nD) (t u : Fin cfg0.N) (h : u.val + 1 = t.val) (wb : Vec F S2048x1024 .bf16) (ax : Vec F S8x2048 .f32)
    (ys : Vec F S2x512x2048 .f32) (ss ms : Vec F S2x512x1 .f32) (hC : Carry m c t.val wb ax ys ss ms) :
    outVal (grid0.coords t) (iblk m c 4 t) (iblk m c 6 t) (iblk m c 7 t) (iblk m c 8 t) wb ax ys ss ms = blkOut m c u t := by
  obtain ⟨rfl, rfl, hs⟩ := hC
  obtain ⟨h1, h2, h3⟩ := hs u h
  unfold outVal blkOut
  rw [window_congr ys (slot_prev2 u t h) _ (k0_off2_inb _), h1, window_congr ss (slot_prev1 u t h) _ (k0_off1_inb _), h2,
    window_congr ms (slot_prev1 u t h) _ (k0_off1_inb _), h3]

/-- What the body leaves in its buffers at a point is what the next point finds. -/
theorem carry_next (c : Dev nD) (t : Fin cfg0.N) (ys : Vec F S2x512x2048 .f32) (ss ms : Vec F S2x512x1 .f32) :
    Carry m c (t.val + 1) (keptW m c) (keptA m c)
      (VecWindow.put ys (k0_off2 (grid0.coords t)) S1x512x2048.size (k0_pay10 (k0_pay9 (iblk m c 0 t) (iblk m c 1 t) (iblk m c 3 t))))
      (VecWindow.put ss (k0_off1 (grid0.coords t)) S1x512x1.size (k0_pay7 (iblk m c 0 t)))
      (VecWindow.put ms (k0_off1 (grid0.coords t)) S1x512x1.size (k0_pay8 (iblk m c 0 t))) :=
  ⟨rfl, rfl, fun u hu => by
    obtain rfl : u = t := Fin.ext (by omega)
    exact ⟨VecWindow.window_put_same _ _ _ _ _, VecWindow.window_put_same _ _ _ _ _, VecWindow.window_put_same _ _ _ _ _⟩⟩

/-- The kernel's own buffers, each whole. -/
abbrev scM0_0 : Memref sig .tc .vmem S2048x1024 .bf16 := Memref.whole cc0_scratch0
abbrev scM0_1 : Memref sig .tc .vmem S8x2048 .f32 := Memref.whole cc0_scratch1
abbrev scM0_2 : Memref sig .tc .vmem S2x512x2048 .f32 := Memref.whole cc0_scratch2
abbrev scM0_3 : Memref sig .tc .vmem S2x512x1 .f32 := Memref.whole cc0_scratch3
abbrev scM0_4 : Memref sig .tc .vmem S2x512x1 .f32 := Memref.whole cc0_scratch4

/-- The frame kit's invariant, the kernel's own buffers held at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)
          ∗ (∃ d, owns (c : Thread nD τ) scM0_3 fullShare d) ∗ (∃ d, owns (c : Thread nD τ) scM0_4 fullShare d)) ∗ ∃ r, prngReg c r) := by
  unfold Pipeline.ΦA; rw [scopedRest0_eq]; simp only [scM0_0, scM0_1, scM0_2, scM0_3, scM0_4, owns_whole]; try rfl

/-- The invariant before point `n`: the kernel's own buffers at contents that, after the first point, are as `Carry` says; and the generator's register. -/
def PhiAt (c : Dev nD) (n : ℕ) : sProp 𝕄 :=
  iprop(∃ wb ax ys ss ms, ⌜n ≠ 0 → Carry m c n wb ax ys ss ms⌝ ∗ owns (c : Thread nD τ) scM0_0 fullShare wb ∗ owns (c : Thread nD τ) scM0_1 fullShare ax
    ∗ owns (c : Thread nD τ) scM0_2 fullShare ys ∗ owns (c : Thread nD τ) scM0_3 fullShare ss ∗ owns (c : Thread nD τ) scM0_4 fullShare ms ∗ ∃ r, prngReg c r)

/-- Before the first point the kit's invariant is enough. -/
theorem phi_in (c : Dev nD) : (Pipeline.ΦA spec0 c : sProp 𝕄) ⊢ PhiAt m c 0 := by
  rw [PhiA0_eq]; unfold PhiAt
  iintro ⟨⟨⟨%wb, H0⟩, ⟨%ax, H1⟩, ⟨%ys, H2⟩, ⟨%ss, H3⟩, ⟨%ms, H4⟩⟩, Hg⟩
  iexists wb, ax, ys, ss, ms
  isplitr; · ipureintro; exact fun h => absurd rfl h
  isplitl [H0]; · iexact H0
  isplitl [H1]; · iexact H1
  isplitl [H2]; · iexact H2
  isplitl [H3]; · iexact H3
  isplitl [H4]; · iexact H4
  iexact Hg

/-- At the end the kit's invariant is given back. -/
theorem phi_out (c : Dev nD) (n : ℕ) : PhiAt m c n ⊢ (Pipeline.ΦA spec0 c : sProp 𝕄) := by
  rw [PhiA0_eq]; unfold PhiAt
  iintro ⟨%wb, %ax, %ys, %ss, %ms, -, H0, H1, H2, H3, H4, Hg⟩
  isplitl [H0 H1 H2 H3 H4]
  · isplitl [H0]; · iexists wb; iexact H0
    isplitl [H1]; · iexists ax; iexact H1
    isplitl [H2]; · iexists ys; iexact H2
    isplitl [H3]; · iexists ss; iexact H3
    iexists ms; iexact H4
  iexact Hg

/-- The window the relation is about: the result's. -/
def isOut : Fin 10 → Bool := fun w => w.val == 9

/-- What the body leaves in the result's block at point `t`: at every point but the first, the block computed from the slots of the point before. -/
def Rel (c : Dev nD) (w : Fin cfg0.W) (t : Fin cfg0.N) : ((cfg0.win w).block.Idx → Elt F (cfg0.win w).elt) → Prop := match w with
  | ⟨9, _⟩ => fun X => ∀ u : Fin cfg0.N, u.val + 1 = t.val → X = blkOut m c u t
  | _ => fun _ => True

/-- The pipeline's proof data on core `c`: every input's buffer at its block after every point, and the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
  Φ n := PhiAt m c n.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Each window's current staging buffer at point `t`. -/
abbrev ms0_0 (t : Fin cfg0.N) : Memref sig .tc .vmem S512x3072 .f32 := win0_0.stage (cfg0.slots t 0)
abbrev ms0_1 (t : Fin cfg0.N) : Memref sig .tc .vmem S1x3072 .f32 := win0_1.stage (cfg0.slots t 1)
abbrev ms0_2 (t : Fin cfg0.N) : Memref sig .tc .vmem S8x3072 .bf16 := win0_2.stage (cfg0.slots t 2)
abbrev ms0_3 (t : Fin cfg0.N) : Memref sig .tc .vmem S3072x2048 .bf16 := win0_3.stage (cfg0.slots t 3)
abbrev ms0_4 (t : Fin cfg0.N) : Memref sig .tc .vmem S1x2048 .f32 := win0_4.stage (cfg0.slots t 4)
abbrev ms0_5 (t : Fin cfg0.N) : Memref sig .tc .vmem S2048x1024 .f32 := win0_5.stage (cfg0.slots t 5)
abbrev ms0_6 (t : Fin cfg0.N) : Memref sig .tc .vmem S1x1024 .f32 := win0_6.stage (cfg0.slots t 6)
abbrev ms0_7 (t : Fin cfg0.N) : Memref sig .tc .vmem S1x1024 .f32 := win0_7.stage (cfg0.slots t 7)
abbrev ms0_8 (t : Fin cfg0.N) : Memref sig .tc .vmem S1x1024 .f32 := win0_8.stage (cfg0.slots t 8)
abbrev ms0_9 (t : Fin cfg0.N) : Memref sig .tc .vmem S512x1024 .f32 := win0_9.stage (cfg0.slots t 9)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ Y, ⌜((dats m 0 c).toRRel isOut (Rel m c)).Finds 9 t Y⌝ ∗ owns (c : Thread nD τ) (ms0_9 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ X, ⌜Rel m c 9 t X⌝ ∗ owns (c : Thread nD τ) (ms0_9 t) fullShare X))

set_option maxHeartbeats 2400000 in
/-- The body at any point: what the buffers hold before it gives what they hold after it, and the result's block is as the relation says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8]
  rw [show (dats m 0 c).Φ t.castSucc = PhiAt m c t.val from rfl, show (dats m 0 c).Φ t.succ = PhiAt m c (t.val + 1) from rfl]
  unfold PhiAt
  have hN : t.val < 17 := lt_of_lt_of_eq t.isLt (show cfg0.N = 17 from N_0)
  by_cases h0 : t.val = 0
  · iintro ⟨⟨%wb, %ax, %ys, %ss, %ms, %hC, HS0, HS1, HS2, HS3, HS4, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, -, H9⟩⟩
    iapply ((run_first c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) wb ax ys ss ms) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, ⟨%X9, H9⟩, HS0, HS1, HS2, HS3, HS4⟩
    isplitl [HS0 HS1 HS2 HS3 HS4 Hg]
    · iexists _, _, _, _, _
      isplitr; swap
      · isplitl [HS0]; · iexact HS0
        isplitl [HS1]; · iexact HS1
        isplitl [HS2]; · iexact HS2
        isplitl [HS3]; · iexact HS3
        isplitl [HS4]; · iexact HS4
        iexact Hg
      · ipureintro
        intro _
        obtain rfl : t = t0 := Fin.ext h0
        exact carry_next m c t0 ys ss ms
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; isplitr; swap
    · iexact H9
    · ipureintro
      exact fun u hu => absurd hu (by omega)
  · iintro ⟨⟨%wb, %ax, %ys, %ss, %ms, %hC, HS0, HS1, HS2, HS3, HS4, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, -, H9⟩⟩
    iapply ((run_later c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) wb ax ys ss ms) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, HS0, HS1, HS2, HS3, HS4⟩
    isplitl [HS0 HS1 HS2 HS3 HS4 Hg]
    · iexists _, _, _, _, _
      isplitr; swap
      · isplitl [HS0]; · iexact HS0
        isplitl [HS1]; · iexact HS1
        isplitl [HS2]; · iexact HS2
        isplitl [HS3]; · iexact HS3
        isplitl [HS4]; · iexact HS4
        iexact Hg
      · ipureintro
        intro _
        obtain ⟨rfl, rfl, -⟩ := hC h0
        exact carry_next m c t ys ss ms
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; isplitr; swap
    · iexact H9
    · ipureintro
      exact fun u hu => outVal_of_carry m c t u hu wb ax ys ss ms (hC h0)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, the result's block held to the relation. -/
theorem body_obligation (c : Dev nD) : Pipeline.BodyObligationRel (dats (F := F) m 0 c) (defs₀ (F := F)) Variants.none () Set.univ isOut (Rel m c) := fun t => by
  rw [bigSep_W0, bigSep_W0, defs₀_row]
  exact triple_restated (sound_body m c t) rfl .rfl fun _ => .rfl

end Cert.KernelIdeal.Own

end
-- ==== Proof.Ker.Final.lean ====
module

public import proofs.«01_k».proof.Proof.Ker.Data
public import Idealize.ShloMosaic.Lib.Pipeline.ValueKit

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: every execution terminates, the counters at zero, the arrays as the relational data say. -/
theorem run_rel : θ_run defs (onTc (τ := τ) (main (F := F))) (s₀ m ρ)
    (fun r => Pipeline.RDat.FramePost (cfgs 0) (fun c => (dats m 0 c).toRRel isOut (Rel m c)) (V m) r ∧ r.2.sem = fun _ => 0) :=
  Pipeline.RDat.θ_run_frame_track (Q' := _) cfgs (0 : Fin 1) launch0 defs₀ Variants.none (fun c => (dats m 0 c).toRRel isOut (Rel m c)) m ρ main
    (hbody := fun c => (body_obligation m c).toRRel) (hshare := fun c => (dats m 0 c).share_full fun _ => rfl)
    (howed := fun _ _ => rfl) (V := V m) (hmain := hmain m Variants.none) (hA := A_eq m)
    (hin := fun c => phi_in m c) (hout := fun c => phi_out m c _)

/-- The point whose slots row `r`'s block is computed from. -/
def srcPt (r : Fin 8192) : Fin cfg0.N := ⟨r.val / 512, by rw [show cfg0.N = 17 from N_0]; omega⟩
/-- The point that stores row `r`'s block. -/
def dstPt (r : Fin 8192) : Fin cfg0.N := ⟨r.val / 512 + 1, by rw [show cfg0.N = 17 from N_0]; omega⟩

/-- The result: each row from the block that the point after its own stores. -/
def outArr (c : Dev nD) : Vec F S8192x1024 .f32 := fun j =>
  blkOut m c (srcPt (j 0)) (dstPt (j 0)) (fun a => match a with | ⟨0, _⟩ => ⟨(j 0).val % 512, Nat.mod_lt _ (by decide)⟩ | ⟨1, _⟩ => j 1)

/-- The result's block is written back after the first point only. -/
theorem flush_pos : ∀ t : Fin cfg0.N, (cfg0.win 9).flush t = true → t.val ≠ 0 := by decide +kernel

/-- Where the result's block sits. -/
theorem index9 : ∀ t : Fin cfg0.N, (cfg0.win 9).index t = ![t.val - 1, 0] := by decide +kernel

/-- The result array after the run. -/
theorem out_eq (c : Dev nD) (r : PUnit.{1} × MemSt nD τ sig (Elt F))
    (h : Pipeline.RDat.FramePost (cfgs 0) (fun c => (dats m 0 c).toRRel isOut (Rel m c)) (V m) r) :
    r.2.mem ((c.tc : Thread nD τ).loc main_v14) = outArr m c := by
  obtain ⟨after, hL, hA⟩ := h.exists_exact c
  refine (hA 9).trans ?_
  refine Pipeline.Dat.arrAt_eq_of_covers (cfg := cfg0) (c := c) (((dats m 0 c).toRRel isOut (Rel m c)).withAfter after) 9 (outArr m c) (by decide +kernel) (fun t hf y => ?_)
  have hR : Rel m c 9 t (after 9 t) := (dats m 0 c).toRRel_leaves rfl (hL 9 t hf)
  have ht := flush_pos t hf
  have hN : t.val < 17 := lt_of_lt_of_eq t.isLt (show cfg0.N = 17 from N_0)
  have e := hR ⟨t.val - 1, lt_of_le_of_lt (Nat.sub_le _ _) t.isLt⟩ (show t.val - 1 + 1 = t.val by omega)
  have e0 : ((((cfg0.win 9).blk t).view.emb y) 0 : Fin 8192).val = (t.val - 1) * 512 + (y 0).val := by
    refine ((cfg0.win 9).rect_emb_val t y 0).trans ?_
    rw [show (cfg0.win 9).index t = ![t.val - 1, 0] from index9 t]; rfl
  have e1 : ((((cfg0.win 9).blk t).view.emb y) 1 : Fin 1024).val = (y 1).val := by
    refine ((cfg0.win 9).rect_emb_val t y 1).trans ?_
    rw [show (cfg0.win 9).index t = ![t.val - 1, 0] from index9 t]
    show 0 * 1024 + _ = _
    omega
  have hy : (y 0).val < 512 := (y 0).isLt
  blk_simp
  show after 9 t y = _
  rw [e]
  unfold outArr
  have hs : srcPt ((((cfg0.win 9).blk t).view.emb y) 0) = ⟨t.val - 1, lt_of_le_of_lt (Nat.sub_le _ _) t.isLt⟩ := Fin.ext (by
    show ((((cfg0.win 9).blk t).view.emb y) 0 : Fin 8192).val / 512 = t.val - 1
    rw [e0]; omega)
  have hd : dstPt ((((cfg0.win 9).blk t).view.emb y) 0) = t := Fin.ext (by
    show ((((cfg0.win 9).blk t).view.emb y) 0 : Fin 8192).val / 512 + 1 = t.val
    rw [e0]; omega)
  show _ = blkOut m c (srcPt ((((cfg0.win 9).blk t).view.emb y) 0)) (dstPt ((((cfg0.win 9).blk t).view.emb y) 0)) _
  rw [hs, hd]
  refine congrArg (blkOut m c _ t) (funext fun a => Fin.ext ?_)
  match a with
  | ⟨0, _⟩ =>
    show (y 0).val = ((((cfg0.win 9).blk t).view.emb y) 0 : Fin 8192).val % 512
    rw [e0]; omega
  | ⟨1, _⟩ => exact e1.symm

/-- The kernel's run: every execution terminates with the result as computed block by block, the arguments unchanged and the counters at zero. -/
theorem run_val : θ_run defs (onTc (τ := τ) (main (F := F))) ⟨m, fun _ => 0, ρ⟩ (fun r => (∀ c : Dev nD,
      r.2.mem ((c.tc : Thread nD τ).loc main_v14) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r h => ⟨fun c => ⟨out_eq m c r h.1,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (h.1.arr_in c 5 rfl).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_rel m ρ)

end Cert.KernelIdeal.Own

end
-- ==== Proof.Math.Row.lean ====
module

public import Idealize.ShloMosaic.PureOps.Ideal.Laws
public import Idealize.ShloMosaic.Lib.IdealHost

@[expose] public section

noncomputable section

namespace Cert.Row

open Idealize.ShloMosaic
open scoped BigOperators

/-- The word of the first row length is 3072. -/
theorem len_first : Ideal.ofBits .f32 0x45400000#32 = ((3072 : ℝ) : EReal) := by
  simp [Ideal.ofBits, Ideal.ieee, -EReal.coe_mul]; norm_num

/-- The word of the second row length is 1024. -/
theorem len_second : Ideal.ofBits .f32 0x44800000#32 = ((1024 : ℝ) : EReal) := by
  simp [Ideal.ofBits, Ideal.ieee, -EReal.coe_mul]; norm_num

/-- The word added to the variance is a positive real number. -/
theorem eps_pos : ∃ e : ℝ, 0 < e ∧ Ideal.ofBits .f32 0x3727C5AC#32 = (e : EReal) := by
  refine ⟨10995116 * 2 ^ (-40 : ℤ), by positivity, ?_⟩
  simp [Ideal.ofBits, Ideal.ieee, -EReal.coe_mul]

/-- The word of one half is a real number. -/
theorem half_real : ∃ e : ℝ, Ideal.ofBits .f32 0x3F000000#32 = (e : EReal) := by
  refine ⟨1 / 2, ?_⟩
  simp [Ideal.ofBits, Ideal.ieee, -EReal.coe_mul]; norm_num

/-- The word under the error function is a real number. -/
theorem scale_real : ∃ e : ℝ, Ideal.ofBits .f32 0x3F3504F3#32 = (e : EReal) := by
  refine ⟨11863283 * 2 ^ (-24 : ℤ), ?_⟩
  simp [Ideal.ofBits, Ideal.ieee, -EReal.coe_mul]

/-- A finite sum of real numbers is the same sum taken among the extended reals. -/
theorem sum_coe {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- The mean of a row of real numbers. -/
def mean {n : ℕ} (x : Fin n → ℝ) : ℝ := (∑ k, x k) * (1 / (n : ℝ))

/-- The variance of a row of real numbers, as the mean of the squared distances. -/
def var {n : ℕ} (x : Fin n → ℝ) : ℝ := (∑ k, (x k - mean x) * (x k - mean x)) * (1 / (n : ℝ))

/-- A variance is not negative. -/
theorem var_nonneg {n : ℕ} (x : Fin n → ℝ) : 0 ≤ var x :=
  mul_nonneg (Finset.sum_nonneg fun k _ => mul_self_nonneg _) (by positivity)

/-- The mean of the squares less the square of the mean is the variance. -/
theorem var_eq {n : ℕ} (hn : (n : ℝ) ≠ 0) (x : Fin n → ℝ) :
    (∑ k, x k * x k) * (1 / (n : ℝ)) - mean x * mean x = var x := by
  have h : ∑ k, (x k - mean x) * (x k - mean x)
      = (∑ k, x k * x k) - 2 * mean x * (∑ k, x k) + n * (mean x * mean x) := by
    have : ∀ k, (x k - mean x) * (x k - mean x) = x k * x k - 2 * mean x * x k + mean x * mean x := fun k => by ring
    simp only [this, Finset.sum_add_distrib, Finset.sum_sub_distrib, ← Finset.mul_sum, Finset.sum_const,
      Finset.card_univ, Fintype.card_fin, nsmul_eq_mul]
    ring
  have hs : (∑ k, x k) = n * mean x := by unfold mean; field_simp
  unfold var
  rw [h, hs]
  field_simp
  ring

/-- A row's mean among the extended reals. -/
theorem mean_coe {n : ℕ} (hn : (n : ℝ) ≠ 0) (x : Fin n → ℝ) :
    Ideal.div (∑ k, ((x k : ℝ) : EReal)) ((n : ℝ) : EReal) = (mean x : EReal) := by
  rw [Ideal.div_coe hn, sum_coe, ← EReal.coe_mul]; rfl

/-- The variance as the reference takes it. -/
theorem var_ref {n : ℕ} (hn : (n : ℝ) ≠ 0) (x : Fin n → ℝ) :
    Ideal.div (∑ k, (((x k : ℝ) : EReal) - (mean x : EReal)) * (((x k : ℝ) : EReal) - (mean x : EReal)))
      ((n : ℝ) : EReal) = (var x : EReal) := by
  simp only [← EReal.coe_sub, ← EReal.coe_mul]
  rw [Ideal.div_coe hn, sum_coe, ← EReal.coe_mul]; rfl

/-- The variance as the kernel takes it. -/
theorem var_ker {n : ℕ} (hn : (n : ℝ) ≠ 0) (x : Fin n → ℝ) :
    Ideal.div (∑ k, ((x k : ℝ) : EReal) * ((x k : ℝ) : EReal)) ((n : ℝ) : EReal) - (mean x : EReal) * (mean x : EReal)
      = (var x : EReal) := by
  simp only [← EReal.coe_mul]
  rw [Ideal.div_coe hn, sum_coe, ← EReal.coe_mul, ← EReal.coe_sub, var_eq hn]

/-- The square root of a variance with the positive word added. -/
theorem sqrt_var {v e : ℝ} (hv : 0 ≤ v) (he : 0 < e) :
    Ideal.sqrt ((v : EReal) + (e : EReal)) = ((Real.sqrt (v + e) : ℝ) : EReal) := by
  rw [← EReal.coe_add]
  have : ¬ v + e < 0 := by linarith
  rw [Ideal.sqrt_coe, if_neg this]

/-- The reciprocal square root of a variance with the positive word added. -/
theorem rsqrt_var {v e : ℝ} (hv : 0 ≤ v) (he : 0 < e) :
    Ideal.rsqrt ((v : EReal) + (e : EReal)) = ((1 / Real.sqrt (v + e) : ℝ) : EReal) := by
  rw [← EReal.coe_add]
  have h1 : ¬ v + e < 0 := by linarith
  have h2 : ¬ v + e = 0 := by linarith
  rw [Ideal.rsqrt_coe, if_neg h1, if_neg h2, one_div]

/-- The deviation, with the positive word under the root, is not zero. -/
theorem sd_ne {v e : ℝ} (hv : 0 ≤ v) (he : 0 < e) : Real.sqrt (v + e) ≠ 0 :=
  (Real.sqrt_pos.mpr (by linarith)).ne'

/-- The first affine map of a normalised row, with the normalisation's scale and shift taken out of the sum: `s` is the
    reciprocal deviation and `μ` the mean. -/
theorem fold_real {n : ℕ} (s μ d : ℝ) (x g b w : Fin n → ℝ) :
    s * (∑ k, x k * g k * w k) - s * μ * (∑ k, g k * w k) + ((∑ k, b k * w k) + d)
      = (∑ k, ((x k - μ) * s * g k + b k) * w k) + d := by
  have : ∀ k, ((x k - μ) * s * g k + b k) * w k = s * (x k * g k * w k) - s * μ * (g k * w k) + b k * w k :=
    fun k => by ring
  simp only [this, Finset.sum_add_distrib, Finset.sum_sub_distrib, ← Finset.mul_sum]
  ring

/-- The hidden value of a row, as a real number. -/
def hid {n : ℕ} (e : ℝ) (x g b w : Fin n → ℝ) (d : ℝ) : ℝ :=
  (∑ k, ((x k - mean x) * (1 / Real.sqrt (var x + e)) * g k + b k) * w k) + d

/-- The kernel's hidden value is the real one. -/
theorem hid_ker {n : ℕ} (e : ℝ) (x g b w : Fin n → ℝ) (d : ℝ) :
    ((1 / Real.sqrt (var x + e) : ℝ) : EReal) * (∑ k, ((x k : ℝ) : EReal) * (g k : EReal) * (w k : EReal))
      - ((1 / Real.sqrt (var x + e) : ℝ) : EReal) * (mean x : EReal) * (∑ k, ((g k : ℝ) : EReal) * (w k : EReal))
      + ((∑ k, ((b k : ℝ) : EReal) * (w k : EReal)) + (d : EReal)) = (hid e x g b w d : EReal) := by
  simp only [← EReal.coe_mul, sum_coe, ← EReal.coe_sub, ← EReal.coe_add, fold_real]
  rfl

/-- The reference's hidden value is the real one. -/
theorem hid_ref {n : ℕ} {e : ℝ} (he : 0 < e) (x g b w : Fin n → ℝ) (d : ℝ) :
    (∑ k, (Ideal.div (((x k : ℝ) : EReal) - (mean x : EReal)) ((Real.sqrt (var x + e) : ℝ) : EReal) * (g k : EReal)
      + (b k : EReal)) * (w k : EReal)) + (d : EReal) = (hid e x g b w d : EReal) := by
  simp only [Ideal.div_coe (sd_ne (var_nonneg x) he), ← EReal.coe_sub, ← EReal.coe_mul, ← EReal.coe_add, sum_coe]
  rfl

/-- The activation of a value, as both programs take it. -/
def act (h : EReal) : EReal :=
  Ideal.ofBits .f32 0x3F000000#32 * h * (1 + Ideal.erf (h * Ideal.ofBits .f32 0x3F3504F3#32))

/-- The activation of a real number is a real number. -/
theorem act_real (h : ℝ) : ∃ y : ℝ, act (h : EReal) = (y : EReal) := by
  obtain ⟨a, ha⟩ := half_real
  obtain ⟨b, hb⟩ := scale_real
  unfold act
  rw [ha, hb, ← EReal.coe_mul, ← EReal.coe_mul, ← EReal.coe_one, Ideal.erf_coe, ← EReal.coe_add, ← EReal.coe_mul]
  exact ⟨_, rfl⟩

/-- The kernel's last step and the reference's agree for every scale and shift. -/
theorem last_eq {v e : ℝ} (hv : 0 ≤ v) (he : 0 < e) (y g b : EReal) :
    y * (Ideal.rsqrt ((v : EReal) + (e : EReal)) * g) + b
      = Ideal.div y (Ideal.sqrt ((v : EReal) + (e : EReal))) * g + b := by
  rw [rsqrt_var hv he, sqrt_var hv he, Ideal.div_coe (sd_ne hv he), mul_assoc]

/-- A row after the second affine map, from its hidden values. -/
def outRow {p n : ℕ} (h : Fin p → ℝ) (w : Fin p → Fin n → ℝ) (d : Fin n → ℝ) (j : Fin n) : EReal :=
  (∑ k, act (h k : EReal) * (w k j : EReal)) + (d j : EReal)

/-- Such a row is real. -/
theorem outRow_real {p n : ℕ} (h : Fin p → ℝ) (w : Fin p → Fin n → ℝ) (d : Fin n → ℝ) :
    ∃ y : Fin n → ℝ, ∀ j, outRow h w d j = (y j : EReal) := by
  choose a ha using act_real
  refine ⟨fun j => (∑ k, a (h k) * w k j) + d j, fun j => ?_⟩
  unfold outRow
  simp only [ha, ← EReal.coe_mul, sum_coe, ← EReal.coe_add]

/-- The reference's last normalisation of a row, at an index. -/
def lastRef {n : ℕ} (N : EReal) (h : Fin n → EReal) (g b : EReal) (j : Fin n) : EReal :=
  Ideal.div (h j - Ideal.div (∑ k, h k) N)
    (Ideal.sqrt (Ideal.div (∑ k, (h k - Ideal.div (∑ k, h k) N) * (h k - Ideal.div (∑ k, h k) N)) N
      + Ideal.ofBits .f32 0x3727C5AC#32)) * g + b

/-- The kernel's last normalisation of a row, at an index. -/
def lastKer {n : ℕ} (N : EReal) (h : Fin n → EReal) (g b : EReal) (j : Fin n) : EReal :=
  (h j - Ideal.div (∑ k, h k) N)
    * (Ideal.rsqrt (Ideal.div (∑ k, h k * h k) N - Ideal.div (∑ k, h k) N * Ideal.div (∑ k, h k) N
      + Ideal.ofBits .f32 0x3727C5AC#32) * g) + b

/-- The two last normalisations of a real row agree. -/
theorem last_agree {n : ℕ} (hn : (n : ℝ) ≠ 0) (h : Fin n → EReal) (y : Fin n → ℝ) (hy : ∀ k, h k = (y k : EReal))
    (g b : EReal) (j : Fin n) : lastKer ((n : ℝ) : EReal) h g b j = lastRef ((n : ℝ) : EReal) h g b j := by
  obtain ⟨e, he, hw⟩ := eps_pos
  unfold lastKer lastRef
  simp only [hy, hw, mean_coe hn]
  rw [var_ker hn, var_ref hn]
  exact last_eq (var_nonneg y) he _ _ _

end Cert.Row
-- ==== Proof.Ker.Pay.lean ====
module

public import proofs.«01_k».proof.Proof.Gen.KernelIdeal.Skeleton
public import proofs.«01_k».proof.Proof.Math.Row
public import Idealize.ShloMosaic.Lib.Pointwise
public import Idealize.ShloMosaic.Lib.IdealHost

@[expose] public section

noncomputable section

namespace Cert.KernelIdeal.Own

open Cert.KernelIdeal Cert.KernelIdeal.Gen
open Idealize.ShloMosaic Idealize.ShloMosaic.TcCoe

/-- The mean the kernel takes of a row of its block. -/
theorem pay5_at (x : Vec Ideal S512x3072 .f32) (i : Fin 512) (z : Fin 1) :
    k0_pay5 x (ix2 i z) = Ideal.div (∑ k : Fin 3072, x (ix2 i k)) ((3072 : ℝ) : EReal) := by
  pointwise [k0_pay5, k0_pay4]
  rw [Row.len_first]

/-- The reciprocal deviation the kernel takes of a row of its block. -/
theorem pay6_at (x : Vec Ideal S512x3072 .f32) (i : Fin 512) (z : Fin 1) :
    k0_pay6 x (ix2 i z) = Ideal.rsqrt (Ideal.div (∑ k : Fin 3072, x (ix2 i k) * x (ix2 i k)) ((3072 : ℝ) : EReal)
      - k0_pay5 x (ix2 i 0) * k0_pay5 x (ix2 i 0) + Ideal.ofBits .f32 0x3727C5AC#32) := by
  obtain rfl : z = 0 := Subsingleton.elim z 0
  pointwise [k0_pay6, k0_pay4]
  rw [Row.len_first]

/-- The reciprocal deviation as it is kept. -/
theorem pay7_at (x : Vec Ideal S512x3072 .f32) (i : Fin 512) :
    k0_pay7 x (ix3 0 i 0) = k0_pay6 x (ix2 i 0) := by
  pointwise [k0_pay7]

/-- The mean times the reciprocal deviation as it is kept. -/
theorem pay8_at (x : Vec Ideal S512x3072 .f32) (i : Fin 512) :
    k0_pay8 x (ix3 0 i 0) = k0_pay6 x (ix2 i 0) * k0_pay5 x (ix2 i 0) := by
  pointwise [k0_pay8]

/-- The product of the scaled block and the first weights as it is kept. -/
theorem pay10_at (x : Vec Ideal S512x3072 .f32) (g : Vec Ideal S1x3072 .f32) (w : Vec Ideal S3072x2048 .bf16)
    (i : Fin 512) (j : Fin 2048) :
    k0_pay10 (k0_pay9 x g w) (ix3 0 i j) = ∑ k : Fin 3072, x (ix2 i k) * g (ix2 0 k) * w (ix2 k j) := by
  pointwise [k0_pay10, k0_pay9, k0_pay4, dot_S512x3072_S3072x2048_S512x2048_1_0_0_1_n_n]

/-- The second weights as they are kept. -/
theorem pay2_at (w : Vec Ideal S2048x1024 .f32) (i : Fin 2048) (j : Fin 1024) : k0_pay2 w (ix2 i j) = w (ix2 i j) := by
  pointwise [k0_pay2]

/-- The products of the scale and shift rows and the first weights. -/
theorem pay3_at (a : Vec Ideal S8x3072 .bf16) (w : Vec Ideal S3072x2048 .bf16) (i : Fin 8) (j : Fin 2048) :
    k0_pay3 a w (ix2 i j) = ∑ k : Fin 3072, a (ix2 i k) * w (ix2 k j) := by
  pointwise [k0_pay3, dot_S8x3072_S3072x2048_S8x2048_1_0_0_1_n_n]

/-- The second product over the activations. -/
theorem pay11_at (y : Vec Ideal S1x512x2048 .f32) (s q : Vec Ideal S1x512x1 .f32) (a0 a1 b : Vec Ideal S1x2048 .f32)
    (w : Vec Ideal S2048x1024 .bf16) (i : Fin 512) (j : Fin 1024) :
    k0_pay11 y s q a0 a1 b w (ix2 i j)
      = ∑ k : Fin 2048, Row.act (s (ix3 0 i 0) * y (ix3 0 i k) - q (ix3 0 i 0) * a0 (ix2 0 k)
          + (a1 (ix2 0 k) + b (ix2 0 k))) * w (ix2 k j) := by
  pointwise [k0_pay11, Row.act, dot_S512x2048_S2048x1024_S512x1024_1_0_0_1_n_n]
  rfl

/-- The last normalisation of the kernel at an index: `h` is the row with the second shift added. -/
theorem pay1_at (v : FVec Ideal S512x1024 .f32) (b2 g b : Vec Ideal S1x1024 .f32) (i : Fin 512) (j : Fin 1024)
    (h : Fin 1024 → EReal) (hh : ∀ k, v (ix2 i k) + b2 (ix2 0 k) = h k) :
    k0_pay1 v b2 g b (ix2 i j)
      = (h j - Ideal.div (∑ k, h k) ((1024 : ℝ) : EReal))
        * (Ideal.rsqrt (Ideal.div (∑ k, h k * h k) ((1024 : ℝ) : EReal)
            - Ideal.div (∑ k, h k) ((1024 : ℝ) : EReal) * Ideal.div (∑ k, h k) ((1024 : ℝ) : EReal)
            + Ideal.ofBits .f32 0x3727C5AC#32) * g (ix2 0 j)) + b (ix2 0 j) := by
  pointwise [k0_pay1]
  simp only [hh, Row.len_second]

end Cert.KernelIdeal.Own
-- ==== Proof.Ker.Host.lean ====
module

public import proofs.«01_k».proof.Proof.Gen.KernelIdeal.Frame
public import Idealize.ShloMosaic.Lib.Pipeline.ValueKit
public import Idealize.ShloMosaic.Lib.StableHlo.Run
public import Idealize.ShloMosaic.Lib.Routing.OpsSet

@[expose] public section

noncomputable section

namespace Cert.KernelIdeal.Own

open Cert.KernelIdeal Cert.KernelIdeal.Gen
open Idealize.ShloMosaic Idealize.ShloMosaic.TcCoe Idealize.ShloMosaic.StableHlo

variable {F : FTy → Type} [FloatOps F]

/-- An update of one row lands in the row its index word names, at its own column. -/
theorem lands_row (idx : IVec S1 32) (r : Fin 8) (hr : ∀ z, (idx z).toInt = (r.val : ℤ)) (k : S3072.Idx) :
    scatter_S8x3072_S1_S3072_0_0_0_0.resultIdx? k idx = some (ix2 r (k 0)) := by
  have s0 : scatter_S8x3072_S1_S3072_0_0_0_0.start k idx 0 = (r.val : ℤ) := by
    unfold ScatterDims.start
    exact (dif_pos (show (0 : Fin S8x3072.rank) ∈ [0] by decide)).trans (hr _)
  have s1 : scatter_S8x3072_S1_S3072_0_0_0_0.start k idx 1 = 0 := by
    unfold ScatterDims.start
    exact dif_neg (show ¬ (1 : Fin S8x3072.rank) ∈ [0] by decide)
  have w0 : scatter_S8x3072_S1_S3072_0_0_0_0.window k 0 = 0 := rfl
  have w1 : scatter_S8x3072_S1_S3072_0_0_0_0.window k 1 = (k 0).val := rfl
  have hk : (k 0).val < 3072 := (k 0).isLt
  have h8 := r.isLt
  unfold ScatterDims.resultIdx?
  rw [dif_pos]
  · congr 1
    funext a
    match a with
    | ⟨0, _⟩ =>
      apply Fin.ext
      show (scatter_S8x3072_S1_S3072_0_0_0_0.start k idx 0 + scatter_S8x3072_S1_S3072_0_0_0_0.window k 0).toNat = r.val
      rw [s0, w0]; omega
    | ⟨1, _⟩ =>
      apply Fin.ext
      show (scatter_S8x3072_S1_S3072_0_0_0_0.start k idx 1 + scatter_S8x3072_S1_S3072_0_0_0_0.window k 1).toNat = (k 0).val
      rw [s1, w1]; omega
  · intro a
    match a with
    | ⟨0, _⟩ =>
      show 0 ≤ scatter_S8x3072_S1_S3072_0_0_0_0.start k idx 0 + scatter_S8x3072_S1_S3072_0_0_0_0.window k 0
        ∧ scatter_S8x3072_S1_S3072_0_0_0_0.start k idx 0 + scatter_S8x3072_S1_S3072_0_0_0_0.window k 0 < ((8 : ℕ) : ℤ)
      rw [s0, w0]; omega
    | ⟨1, _⟩ =>
      show 0 ≤ scatter_S8x3072_S1_S3072_0_0_0_0.start k idx 1 + scatter_S8x3072_S1_S3072_0_0_0_0.window k 1
        ∧ scatter_S8x3072_S1_S3072_0_0_0_0.start k idx 1 + scatter_S8x3072_S1_S3072_0_0_0_0.window k 1 < ((3072 : ℕ) : ℤ)
      rw [s1, w1]; omega

/-- The row written reads the update. -/
theorem row_hit {α : Type} (x : S8x3072.Idx → α) (idx : IVec S1 32) (u : S3072.Idx → α) (r : Fin 8)
    (hr : ∀ z, (idx z).toInt = (r.val : ℤ)) (k : Fin 3072) :
    Host.scatter scatter_S8x3072_S1_S3072_0_0_0_0 (fun _ b => b) x idx u (ix2 r k) = u (ix1 k) := by
  refine Routing.scatter_set_hit _ x idx u _ _ (fun q hq => ?_) (ix1 k) (lands_row idx r hr _)
  rw [lands_row idx r hr] at hq
  have h := congrFun (Option.some.inj hq) 1
  have h' : q 0 = k := h
  rw [← h']
  exact congrArg u (ix1_eta q).symm

/-- Every other row reads the array as it was. -/
theorem row_miss {α : Type} (x : S8x3072.Idx → α) (idx : IVec S1 32) (u : S3072.Idx → α) (r r' : Fin 8)
    (hr : ∀ z, (idx z).toInt = (r.val : ℤ)) (hn : r ≠ r') (k : Fin 3072) :
    Host.scatter scatter_S8x3072_S1_S3072_0_0_0_0 (fun _ b => b) x idx u (ix2 r' k) = x (ix2 r' k) := by
  refine Routing.scatter_set_miss _ x idx u _ fun q hq => hn ?_
  rw [lands_row idx r hr] at hq
  exact congrFun (Option.some.inj hq) 0

variable (m : (ℓ : Loc nD τ sig) → Buf (Elt F) ℓ) (c : Dev nD)

/-- The rows of the input as the kernel is given them. -/
theorem V_v0 : V m c main_v0 = shapeCast _ (m ((c.tc : Thread nD τ).loc main_arg0)) shapeCasts_S4x2048x3072_S8192x3072 := by
  unfold V; simp only [hostOps0]; after_results_simp <;> rfl
/-- The first scale as a row. -/
theorem V_v8 : V m c main_v8 = shapeCast _ (m ((c.tc : Thread nD τ).loc main_arg1)) shapeCasts_S3072_S1x3072 := by
  unfold V; simp only [hostOps0]; after_results_simp <;> rfl
/-- The first weights as the kernel is given them. -/
theorem V_v9 : V m c main_v9 = (truncf .bf16 (m ((c.tc : Thread nD τ).loc main_arg3)) bitsLt_bf16_f32 : FVec F S3072x2048 .bf16) := by
  unfold V; simp only [hostOps0]; after_results_simp <;> rfl
/-- The first shift of the affine map as a row. -/
theorem V_v10 : V m c main_v10 = shapeCast _ (m ((c.tc : Thread nD τ).loc main_arg4)) shapeCasts_S2048_S1x2048 := by
  unfold V; simp only [hostOps0]; after_results_simp <;> rfl
/-- The second shift of the affine map as a row. -/
theorem V_v11 : V m c main_v11 = shapeCast _ (m ((c.tc : Thread nD τ).loc main_arg6)) shapeCasts_S1024_S1x1024 := by
  unfold V; simp only [hostOps0]; after_results_simp <;> rfl
/-- The second scale as a row. -/
theorem V_v12 : V m c main_v12 = shapeCast _ (m ((c.tc : Thread nD τ).loc main_arg7)) shapeCasts_S1024_S1x1024 := by
  unfold V; simp only [hostOps0]; after_results_simp <;> rfl
/-- The second shift as a row. -/
theorem V_v13 : V m c main_v13 = shapeCast _ (m ((c.tc : Thread nD τ).loc main_arg8)) shapeCasts_S1024_S1x1024 := by
  unfold V; simp only [hostOps0]; after_results_simp <;> rfl

/-- The scale and shift rows, written one after the other into an array of zeros. -/
def gbArr (g b : FVec F S3072 .f32) : FVec F S8x3072 .bf16 :=
  Host.scatter scatter_S8x3072_S1_S3072_0_0_0_0 (fun _ b => b)
    (Host.scatter scatter_S8x3072_S1_S3072_0_0_0_0 (fun _ b => b)
      (broadcastInDim S8x3072 ![] bcast_S_S8x3072 (constant S_ .bf16 0x0000#16))
      (broadcastInDim S1 ![] bcast_S_S1 (constantI S_ 32 0#32)) (truncf .bf16 g bitsLt_bf16_f32))
    (broadcastInDim S1 ![] bcast_S_S1 (constantI S_ 32 1#32)) (truncf .bf16 b bitsLt_bf16_f32)

/-- The array of scale and shift rows as the kernel is given it. -/
theorem V_v7 : V m c main_v7 = gbArr (m ((c.tc : Thread nD τ).loc main_arg1)) (m ((c.tc : Thread nD τ).loc main_arg2)) := by
  unfold V; simp only [hostOps0]; after_results_simp <;> rfl

/-- Its first row is the scale. -/
theorem gb_row0 (g b : FVec Ideal S3072 .f32) (k : Fin 3072) : gbArr g b (ix2 0 k) = g (ix1 k) := by
  unfold gbArr
  rw [row_miss _ _ _ 1 0 (fun _ => rfl) (by decide), row_hit _ _ _ 0 (fun _ => rfl)]
  rfl
/-- Its second row is the shift. -/
theorem gb_row1 (g b : FVec Ideal S3072 .f32) (k : Fin 3072) : gbArr g b (ix2 1 k) = b (ix1 k) := by
  unfold gbArr
  rw [row_hit _ _ _ 1 (fun _ => rfl)]
  rfl

end Cert.KernelIdeal.Own
-- ==== Proof.Ker.Read.lean ====
module

public import proofs.«01_k».proof.Proof.Ker.Host

@[expose] public section

noncomputable section

namespace Cert.KernelIdeal.Own

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-- The block of every window at every point. -/
theorem places : ∀ t : Fin cfg0.N, (cfg0.win 0).index t = ![min t.val 15, 0] ∧ (cfg0.win 1).index t = ![0, 0]
    ∧ (cfg0.win 2).index t = ![0, 0] ∧ (cfg0.win 3).index t = ![0, 0] ∧ (cfg0.win 4).index t = ![0, 0]
    ∧ (cfg0.win 5).index t = ![0, 0] ∧ (cfg0.win 6).index t = ![0, 0] ∧ (cfg0.win 7).index t = ![0, 0]
    ∧ (cfg0.win 8).index t = ![0, 0] := by decide +kernel

/-- The input block of a point, read at an index: a row of the input. -/
theorem blk0 (t : Fin cfg0.N) (i : Fin 512) (k : Fin 3072) (r : Fin 8192) (h : r.val = min t.val 15 * 512 + i.val) :
    iblk m c 0 t (ix2 i k) = V m c main_v0 (ix2 r k) := by
  blk_ext! [iblk, places t]

/-- The scale row of a point. -/
theorem blk1 (t : Fin cfg0.N) (k : Fin 3072) : iblk m c 1 t (ix2 0 k) = V m c main_v8 (ix2 0 k) := by
  blk_ext! [iblk, places t]
/-- The array of scale and shift rows of a point. -/
theorem blk2 (t : Fin cfg0.N) (i : Fin 8) (k : Fin 3072) : iblk m c 2 t (ix2 i k) = V m c main_v7 (ix2 i k) := by
  blk_ext! [iblk, places t]
/-- The first weights of a point. -/
theorem blk3 (t : Fin cfg0.N) (i : Fin 3072) (k : Fin 2048) : iblk m c 3 t (ix2 i k) = V m c main_v9 (ix2 i k) := by
  blk_ext! [iblk, places t]
/-- The first shift of the affine map. -/
theorem blk4 (t : Fin cfg0.N) (k : Fin 2048) : iblk m c 4 t (ix2 0 k) = V m c main_v10 (ix2 0 k) := by
  blk_ext! [iblk, places t]
/-- The second weights. -/
theorem blk5 (t : Fin cfg0.N) (i : Fin 2048) (k : Fin 1024) : iblk m c 5 t (ix2 i k) = V m c main_arg5 (ix2 i k) := by
  blk_ext! [iblk, places t]
/-- The second shift of the affine map. -/
theorem blk6 (t : Fin cfg0.N) (k : Fin 1024) : iblk m c 6 t (ix2 0 k) = V m c main_v11 (ix2 0 k) := by
  blk_ext! [iblk, places t]
/-- The second scale. -/
theorem blk7 (t : Fin cfg0.N) (k : Fin 1024) : iblk m c 7 t (ix2 0 k) = V m c main_v12 (ix2 0 k) := by
  blk_ext! [iblk, places t]
/-- The second shift. -/
theorem blk8 (t : Fin cfg0.N) (k : Fin 1024) : iblk m c 8 t (ix2 0 k) = V m c main_v13 (ix2 0 k) := by
  blk_ext! [iblk, places t]

end Cert.KernelIdeal.Own
-- ==== Proof.Ker.Value.lean ====
module

public import proofs.«01_k».proof.Proof.Ker.Final
public import proofs.«01_k».proof.Proof.Ker.Pay
public import proofs.«01_k».proof.Proof.Ker.Read

@[expose] public section

set_option maxRecDepth 16384

noncomputable section

namespace Cert.KernelIdeal.Own

open Cert.KernelIdeal Cert.KernelIdeal.Gen
open Idealize.ShloMosaic Idealize.ShloMosaic.TcCoe

/-- 3072 as a real number is the count 3072. -/
theorem len_cast : ((3072 : ℝ) : EReal) = (((3072 : ℕ) : ℝ) : EReal) := by norm_num

variable (m : (ℓ : Loc nD τ sig) → Buf (Elt Ideal) ℓ) (c : Dev nD)

/-- A flat array of 3072 elements as a row, read at an index. -/
theorem row_3072 {α : Type} (x : S3072.Idx → α) (k : Fin 3072) :
    shapeCast S1x3072 x shapeCasts_S3072_S1x3072 (ix2 0 k) = x (ix1 k) := by
  pointwise
/-- A flat array of 2048 elements as a row, read at an index. -/
theorem row_2048 {α : Type} (x : S2048.Idx → α) (k : Fin 2048) :
    shapeCast S1x2048 x shapeCasts_S2048_S1x2048 (ix2 0 k) = x (ix1 k) := by
  pointwise
/-- A flat array of 1024 elements as a row, read at an index. -/
theorem row_1024 {α : Type} (x : S1024.Idx → α) (k : Fin 1024) :
    shapeCast S1x1024 x shapeCasts_S1024_S1x1024 (ix2 0 k) = x (ix1 k) := by
  pointwise

/-- The kept scale product: row zero of the kept rows. -/
theorem window0 (x : Vec Ideal S8x2048 .f32) (k : Fin 2048) :
    VecWindow.window x ![0, 0] S1x2048.size inb_S8x2048_S1x2048_0_0 (ix2 0 k) = x (ix2 0 k) := by
  unfold VecWindow.window
  congr 1
  funext a
  match a with
  | ⟨0, _⟩ => rfl
  | ⟨1, _⟩ => exact Fin.ext (by simp [Rect.unit, Rect.emb])
/-- The kept shift product: row one of the kept rows. -/
theorem window1 (x : Vec Ideal S8x2048 .f32) (k : Fin 2048) :
    VecWindow.window x ![1, 0] S1x2048.size inb_S8x2048_S1x2048_1_0 (ix2 0 k) = x (ix2 1 k) := by
  unfold VecWindow.window
  congr 1
  funext a
  match a with
  | ⟨0, _⟩ => rfl
  | ⟨1, _⟩ => exact Fin.ext (by simp [Rect.unit, Rect.emb])

/-- The kernel's result at an index, over real arguments: the last normalisation of the row of the second affine map. -/
theorem ker_at (e : ℝ) (he : 0 < e) (hw : Ideal.ofBits .f32 0x3727C5AC#32 = (e : EReal))
    (r : Fin 8192) (x g b : Fin 3072 → ℝ) (w : Fin 3072 → Fin 2048 → ℝ) (d : Fin 2048 → ℝ) (w2 : Fin 2048 → Fin 1024 → ℝ)
    (d2 : Fin 1024 → ℝ) (hx : ∀ k, V m c main_v0 (ix2 r k) = (x k : EReal))
    (h1 : ∀ k, m ((c.tc : Thread nD τ).loc main_arg1) (ix1 k) = (g k : EReal))
    (h2 : ∀ k, m ((c.tc : Thread nD τ).loc main_arg2) (ix1 k) = (b k : EReal))
    (h3 : ∀ k j, m ((c.tc : Thread nD τ).loc main_arg3) (ix2 k j) = (w k j : EReal))
    (h4 : ∀ k, m ((c.tc : Thread nD τ).loc main_arg4) (ix1 k) = (d k : EReal))
    (h5 : ∀ k j, m ((c.tc : Thread nD τ).loc main_arg5) (ix2 k j) = (w2 k j : EReal))
    (h6 : ∀ k, m ((c.tc : Thread nD τ).loc main_arg6) (ix1 k) = (d2 k : EReal)) (j : Fin 1024) :
    outArr m c (ix2 r j)
      = Row.lastKer ((1024 : ℝ) : EReal) (Row.outRow (fun k => Row.hid e x g b (fun q => w q k) (d k)) w2 d2)
          (m ((c.tc : Thread nD τ).loc main_arg7) (ix1 j)) (m ((c.tc : Thread nD τ).loc main_arg8) (ix1 j)) j := by
  have hn : ((3072 : ℕ) : ℝ) ≠ 0 := by norm_num
  have hr := r.isLt
  have hp : r.val % 512 < 512 := Nat.mod_lt _ (by norm_num)
  have bx : ∀ k, iblk m c 0 (srcPt r) (ix2 (⟨r.val % 512, hp⟩ : Fin 512) k) = (x k : EReal) := fun k => by
    rw [blk0 m c (srcPt r) ⟨r.val % 512, hp⟩ k r (by
      show r.val = min (r.val / 512) 15 * 512 + r.val % 512
      omega)]
    exact hx k
  have bg : ∀ t k, iblk m c 1 t (ix2 (0 : Fin 1) k) = (g k : EReal) := fun t k => by
    rw [blk1, V_v8, ← h1 k]; exact row_3072 _ k
  have bgb0 : ∀ t k, iblk m c 2 t (ix2 (0 : Fin 8) k) = (g k : EReal) := fun t k => by
    rw [blk2, V_v7, gb_row0, h1]
  have bgb1 : ∀ t k, iblk m c 2 t (ix2 (1 : Fin 8) k) = (b k : EReal) := fun t k => by
    rw [blk2, V_v7, gb_row1, h2]
  have bw : ∀ t k l, iblk m c 3 t (ix2 k l) = (w k l : EReal) := fun t k l => by
    rw [blk3, V_v9]; exact h3 k l
  have bd : ∀ t k, iblk m c 4 t (ix2 (0 : Fin 1) k) = (d k : EReal) := fun t k => by
    rw [blk4, V_v10, ← h4 k]; exact row_2048 _ k
  have bw2 : ∀ t k l, iblk m c 5 t (ix2 k l) = (w2 k l : EReal) := fun t k l => by
    rw [blk5, V_main_arg5]; exact h5 k l
  have bd2 : ∀ t k, iblk m c 6 t (ix2 (0 : Fin 1) k) = (d2 k : EReal) := fun t k => by
    rw [blk6, V_v11, ← h6 k]; exact row_1024 _ k
  have bg2 : ∀ t k, iblk m c 7 t (ix2 (0 : Fin 1) k) = m ((c.tc : Thread nD τ).loc main_arg7) (ix1 k) := fun t k => by
    rw [blk7, V_v12]; exact row_1024 _ k
  have bb2 : ∀ t k, iblk m c 8 t (ix2 (0 : Fin 1) k) = m ((c.tc : Thread nD τ).loc main_arg8) (ix1 k) := fun t k => by
    rw [blk8, V_v13]; exact row_1024 _ k
  have pm : k0_pay5 (iblk m c 0 (srcPt r)) (ix2 (⟨r.val % 512, hp⟩ : Fin 512) 0) = (Row.mean x : EReal) := by
    rw [pay5_at]; simp only [bx]; rw [len_cast, Row.mean_coe hn]
  have ps : k0_pay6 (iblk m c 0 (srcPt r)) (ix2 (⟨r.val % 512, hp⟩ : Fin 512) 0)
      = ((1 / Real.sqrt (Row.var x + e) : ℝ) : EReal) := by
    rw [pay6_at, pm]; simp only [bx]
    rw [len_cast, Row.var_ker hn, hw, Row.rsqrt_var (Row.var_nonneg x) he]
  show blkOut m c (srcPt r) (dstPt r) (ix2 (⟨r.val % 512, hp⟩ : Fin 512) j) = _
  unfold blkOut
  rw [pay1_at _ _ _ _ _ _ (Row.outRow (fun k => Row.hid e x g b (fun q => w q k) (d k)) w2 d2), bg2, bb2]
  · rfl
  · intro l
    rw [pay11_at, bd2]
    unfold Row.outRow
    refine congrArg (· + (d2 l : EReal)) ?_
    refine Finset.sum_congr rfl fun k _ => ?_
    unfold slotY slotS slotM keptA keptW
    rw [pay7_at, pay8_at, pay10_at, pay2_at, window0, window1, pay3_at, pay3_at, ps, pm, bw2, bd]
    simp only [bx, bg, bgb0, bgb1, bw]
    rw [Row.hid_ker]

end Cert.KernelIdeal.Own
-- ==== Proof.Ref.Stages.lean ====
module

public import proofs.«01_k».proof.Proof.Gen.ReferenceIdeal.Run
public import proofs.«01_k».proof.Proof.Math.Row
public import Idealize.ShloMosaic.Lib.Pointwise
public import Idealize.ShloMosaic.Lib.IdealHost

@[expose] public section

noncomputable section

namespace Cert.ReferenceIdeal.Own

open Cert.ReferenceIdeal Cert.ReferenceIdeal.Gen
open Idealize.ShloMosaic Idealize.ShloMosaic.TcCoe

variable {F : FTy → Type} [FloatOps F]

/-- The mean of every row of the first operand, as a column. -/
def meanA (x : FVec F S8192x3072 .f32) : FVec F S8192x1 .f32 :=
  Host.divf (broadcastInDim S8192x1 ![0] bcast_S8192_S8192x1_0
      (Host.reduceAdd x (constant S_ .f32 0x00000000#32) reducesTo_S8192x3072_S8192_d1 h_S_))
    (broadcastInDim S8192x1 ![] bcast_S_S8192x1 (constant S_ .f32 0x45400000#32))

/-- Every row of the first operand less its mean. -/
def centA (x : FVec F S8192x3072 .f32) : FVec F S8192x3072 .f32 :=
  subf x (broadcastInDim S8192x3072 ![0, 1] bcast_S8192x1_S8192x3072_0_1 (meanA x))

/-- The divisor of the first variance: the row's length less the correction, which is zero. -/
def denA : FVec F S_ .f32 :=
  subf (constant S_ .f32 0x45400000#32) (sitofp .f32 (constantI S_ 32 0#32))

/-- The variance of every row of the first operand, as a column. -/
def varA (x : FVec F S8192x3072 .f32) : FVec F S8192x1 .f32 :=
  select (broadcastInDim S8192x1 ![] bcast_S_S8192x1 (cmpf .ogt (denA (F := F)) (constant S_ .f32 0x00000000#32)))
    (Host.divf (broadcastInDim S8192x1 ![0] bcast_S8192_S8192x1_0
        (Host.reduceAdd (mulf (centA x) (centA x)) (constant S_ .f32 0x00000000#32) reducesTo_S8192x3072_S8192_d1 h_S_))
      (broadcastInDim S8192x1 ![] bcast_S_S8192x1 (denA (F := F))))
    (broadcastInDim S8192x1 ![] bcast_S_S8192x1 (id (constant S_ .f32 0x7FC00000#32)))

/-- The first normalisation with its scale and shift. -/
def normA (x : FVec F S8192x3072 .f32) (g b : FVec F S3072 .f32) : FVec F S8192x3072 .f32 :=
  addf (mulf (Host.divf (centA x) (broadcastInDim S8192x3072 ![0, 1] bcast_S8192x1_S8192x3072_0_1
      (Host.sqrt (addf (varA x) (broadcastInDim S8192x1 ![] bcast_S_S8192x1 (constant S_ .f32 0x3727C5AC#32))))))
      (broadcastInDim S8192x3072 ![0, 1] bcast_S1x3072_S8192x3072_0_1 (broadcastInDim S1x3072 ![1] bcast_S3072_S1x3072_1 g)))
    (broadcastInDim S8192x3072 ![0, 1] bcast_S1x3072_S8192x3072_0_1 (broadcastInDim S1x3072 ![1] bcast_S3072_S1x3072_1 b))

/-- The first affine map. -/
def hidA (n : FVec F S8192x3072 .f32) (w : FVec F S3072x2048 .f32) (b : FVec F S2048 .f32) : FVec F S8192x2048 .f32 :=
  addf (Host.dotGeneral dot_S8192x3072_S3072x2048_S8192x2048_1_0_0_1_n_n none n w)
    (broadcastInDim S8192x2048 ![0, 1] bcast_S1x2048_S8192x2048_0_1 (broadcastInDim S1x2048 ![1] bcast_S2048_S1x2048_1 b))

/-- The activation. -/
def actA (h : FVec F S8192x2048 .f32) : FVec F S8192x2048 .f32 :=
  mulf (mulf (broadcastInDim S8192x2048 ![] bcast_S_S8192x2048 (constant S_ .f32 0x3F000000#32)) h)
    (addf (broadcastInDim S8192x2048 ![] bcast_S_S8192x2048 (constant S_ .f32 0x3F800000#32))
      (Host.erf (mulf h (broadcastInDim S8192x2048 ![] bcast_S_S8192x2048 (constant S_ .f32 0x3F3504F3#32)))))

/-- The second affine map. -/
def hidB (n : FVec F S8192x2048 .f32) (w : FVec F S2048x1024 .f32) (b : FVec F S1024 .f32) : FVec F S8192x1024 .f32 :=
  addf (Host.dotGeneral dot_S8192x2048_S2048x1024_S8192x1024_1_0_0_1_n_n none n w)
    (broadcastInDim S8192x1024 ![0, 1] bcast_S1x1024_S8192x1024_0_1 (broadcastInDim S1x1024 ![1] bcast_S1024_S1x1024_1 b))

/-- The mean of every row of the second operand, as a column. -/
def meanB (x : FVec F S8192x1024 .f32) : FVec F S8192x1 .f32 :=
  Host.divf (broadcastInDim S8192x1 ![0] bcast_S8192_S8192x1_0
      (Host.reduceAdd x (constant S_ .f32 0x00000000#32) reducesTo_S8192x1024_S8192_d1 h_S_))
    (broadcastInDim S8192x1 ![] bcast_S_S8192x1 (constant S_ .f32 0x44800000#32))

/-- Every row of the second operand less its mean. -/
def centB (x : FVec F S8192x1024 .f32) : FVec F S8192x1024 .f32 :=
  subf x (broadcastInDim S8192x1024 ![0, 1] bcast_S8192x1_S8192x1024_0_1 (meanB x))

/-- The divisor of the second variance. -/
def denB : FVec F S_ .f32 :=
  subf (constant S_ .f32 0x44800000#32) (sitofp .f32 (constantI S_ 32 0#32))

/-- The variance of every row of the second operand, as a column. -/
def varB (x : FVec F S8192x1024 .f32) : FVec F S8192x1 .f32 :=
  select (broadcastInDim S8192x1 ![] bcast_S_S8192x1 (cmpf .ogt (denB (F := F)) (constant S_ .f32 0x00000000#32)))
    (Host.divf (broadcastInDim S8192x1 ![0] bcast_S8192_S8192x1_0
        (Host.reduceAdd (mulf (centB x) (centB x)) (constant S_ .f32 0x00000000#32) reducesTo_S8192x1024_S8192_d1 h_S_))
      (broadcastInDim S8192x1 ![] bcast_S_S8192x1 (denB (F := F))))
    (broadcastInDim S8192x1 ![] bcast_S_S8192x1 (id (constant S_ .f32 0x7FC00000#32)))

/-- The second normalisation with its scale and shift. -/
def normB (x : FVec F S8192x1024 .f32) (g b : FVec F S1024 .f32) : FVec F S8192x1024 .f32 :=
  addf (mulf (Host.divf (centB x) (broadcastInDim S8192x1024 ![0, 1] bcast_S8192x1_S8192x1024_0_1
      (Host.sqrt (addf (varB x) (broadcastInDim S8192x1 ![] bcast_S_S8192x1 (constant S_ .f32 0x3727C5AC#32))))))
      (broadcastInDim S8192x1024 ![0, 1] bcast_S1x1024_S8192x1024_0_1 (broadcastInDim S1x1024 ![1] bcast_S1024_S1x1024_1 g)))
    (broadcastInDim S8192x1024 ![0, 1] bcast_S1x1024_S8192x1024_0_1 (broadcastInDim S1x1024 ![1] bcast_S1024_S1x1024_1 b))

variable (m : (ℓ : Loc nD τ sig) → Buf (Elt F) ℓ) (c : Dev nD)

/-- The reference's result is the six stages after one another. -/
theorem res_eq : Value.res_main_v52 m c =
    normB (hidB (actA (hidA (normA
      (shapeCast _ (m ((c.tc : Thread nD τ).loc main_arg0)) shapeCasts_S4x2048x3072_S8192x3072)
      (m ((c.tc : Thread nD τ).loc main_arg1)) (m ((c.tc : Thread nD τ).loc main_arg2)))
      (m ((c.tc : Thread nD τ).loc main_arg3)) (m ((c.tc : Thread nD τ).loc main_arg4))))
      (m ((c.tc : Thread nD τ).loc main_arg5)) (m ((c.tc : Thread nD τ).loc main_arg6)))
      (m ((c.tc : Thread nD τ).loc main_arg7)) (m ((c.tc : Thread nD τ).loc main_arg8)) := by
  unfold Value.res_main_v52
  with_unfolding_all rfl

/-- The word zero as a float is zero. -/
theorem sitofp_zero : (FloatOps.sitofp FTy.f32 (0#32) : Ideal .f32) = (0 : EReal) := by
  show ((((0#32 : BitVec 32).toInt : ℤ) : ℝ) : EReal) = 0
  simp

/-- The mean of a row of the first operand. -/
theorem meanA_at (x : FVec Ideal S8192x3072 .f32) (r : Fin 8192) (z : Fin 1) :
    meanA x (ix2 r z) = Ideal.div (∑ k : Fin 3072, x (ix2 r k)) ((3072 : ℝ) : EReal) := by
  pointwise [meanA]
  rw [Row.len_first]

/-- The variance of a row of the first operand. -/
theorem varA_at (x : FVec Ideal S8192x3072 .f32) (r : Fin 8192) (z : Fin 1) :
    varA x (ix2 r z) = Ideal.div (∑ k : Fin 3072, (x (ix2 r k) - meanA x (ix2 r 0)) * (x (ix2 r k) - meanA x (ix2 r 0)))
      ((3072 : ℝ) : EReal) := by
  pointwise [varA, centA, denA]
  rw [sitofp_zero, Row.len_first, sub_zero, if_pos (by exact_mod_cast (by norm_num : (0 : ℝ) < 3072))]

/-- The first normalisation at an index. -/
theorem normA_at (x : FVec Ideal S8192x3072 .f32) (g b) (r : Fin 8192) (z : Fin 3072) :
    normA x g b (ix2 r z) = Ideal.div (x (ix2 r z) - meanA x (ix2 r 0))
      (Ideal.sqrt (varA x (ix2 r 0) + Ideal.ofBits .f32 0x3727C5AC#32)) * g (ix1 z) + b (ix1 z) := by
  pointwise [normA, centA]

/-- The first affine map at an index. -/
theorem hidA_at (x : FVec Ideal S8192x3072 .f32) (w b) (r : Fin 8192) (z : Fin 2048) :
    hidA x w b (ix2 r z) = ∑ k : Fin 3072, x (ix2 r k) * w (ix2 k z) + b (ix1 z) := by
  pointwise [hidA, dot_S8192x3072_S3072x2048_S8192x2048_1_0_0_1_n_n]

/-- The activation at an index. -/
theorem actA_at (x : FVec Ideal S8192x2048 .f32) (r : Fin 8192) (z : Fin 2048) :
    actA x (ix2 r z) = Row.act (x (ix2 r z)) := by
  pointwise [actA, Row.act]

/-- The second affine map at an index. -/
theorem hidB_at (x : FVec Ideal S8192x2048 .f32) (w b) (r : Fin 8192) (z : Fin 1024) :
    hidB x w b (ix2 r z) = ∑ k : Fin 2048, x (ix2 r k) * w (ix2 k z) + b (ix1 z) := by
  pointwise [hidB, dot_S8192x2048_S2048x1024_S8192x1024_1_0_0_1_n_n]

/-- The mean of a row of the second operand. -/
theorem meanB_at (x : FVec Ideal S8192x1024 .f32) (r : Fin 8192) (z : Fin 1) :
    meanB x (ix2 r z) = Ideal.div (∑ k : Fin 1024, x (ix2 r k)) ((1024 : ℝ) : EReal) := by
  pointwise [meanB]
  rw [Row.len_second]

/-- The variance of a row of the second operand. -/
theorem varB_at (x : FVec Ideal S8192x1024 .f32) (r : Fin 8192) (z : Fin 1) :
    varB x (ix2 r z) = Ideal.div (∑ k : Fin 1024, (x (ix2 r k) - meanB x (ix2 r 0)) * (x (ix2 r k) - meanB x (ix2 r 0)))
      ((1024 : ℝ) : EReal) := by
  pointwise [varB, centB, denB]
  rw [sitofp_zero, Row.len_second, sub_zero, if_pos (by exact_mod_cast (by norm_num : (0 : ℝ) < 1024))]

/-- The second normalisation at an index. -/
theorem normB_at (x : FVec Ideal S8192x1024 .f32) (g b) (r : Fin 8192) (z : Fin 1024) :
    normB x g b (ix2 r z) = Ideal.div (x (ix2 r z) - meanB x (ix2 r 0))
      (Ideal.sqrt (varB x (ix2 r 0) + Ideal.ofBits .f32 0x3727C5AC#32)) * g (ix1 z) + b (ix1 z) := by
  pointwise [normB, centB]

end Cert.ReferenceIdeal.Own
-- ==== Proof.Ref.Value.lean ====
module

public import proofs.«01_k».proof.Proof.Ref.Stages

@[expose] public section

noncomputable section

namespace Cert.ReferenceIdeal.Own

open Cert.ReferenceIdeal Cert.ReferenceIdeal.Gen
open Idealize.ShloMosaic

/-- 3072 as a real number is the count 3072. -/
theorem len_cast : ((3072 : ℝ) : EReal) = (((3072 : ℕ) : ℝ) : EReal) := by norm_num
/-- 1024 as a real number is the count 1024. -/
theorem len_cast' : ((1024 : ℝ) : EReal) = (((1024 : ℕ) : ℝ) : EReal) := by norm_num

/-- The reference's result at an index, over real arguments: the last normalisation of the row of the second affine map. -/
theorem ref_at (e : ℝ) (he : 0 < e) (hw : Ideal.ofBits .f32 0x3727C5AC#32 = (e : EReal))
    (X : FVec Ideal S8192x3072 .f32) (a1 a2 : FVec Ideal S3072 .f32) (a3 : FVec Ideal S3072x2048 .f32)
    (a4 : FVec Ideal S2048 .f32) (a5 : FVec Ideal S2048x1024 .f32) (a6 a7 a8 : FVec Ideal S1024 .f32)
    (r : Fin 8192) (x g b : Fin 3072 → ℝ) (w : Fin 3072 → Fin 2048 → ℝ) (d : Fin 2048 → ℝ) (w2 : Fin 2048 → Fin 1024 → ℝ)
    (d2 : Fin 1024 → ℝ) (hx : ∀ k, X (ix2 r k) = (x k : EReal)) (h1 : ∀ k, a1 (ix1 k) = (g k : EReal))
    (h2 : ∀ k, a2 (ix1 k) = (b k : EReal)) (h3 : ∀ k j, a3 (ix2 k j) = (w k j : EReal)) (h4 : ∀ k, a4 (ix1 k) = (d k : EReal))
    (h5 : ∀ k j, a5 (ix2 k j) = (w2 k j : EReal)) (h6 : ∀ k, a6 (ix1 k) = (d2 k : EReal)) (j : Fin 1024) :
    normB (hidB (actA (hidA (normA X a1 a2) a3 a4)) a5 a6) a7 a8 (ix2 r j)
      = Row.lastRef ((1024 : ℝ) : EReal) (Row.outRow (fun k => Row.hid e x g b (fun q => w q k) (d k)) w2 d2)
          (a7 (ix1 j)) (a8 (ix1 j)) j := by
  have hn : ((3072 : ℕ) : ℝ) ≠ 0 := by norm_num
  have hm : ∀ z, meanA X (ix2 r z) = (Row.mean x : EReal) := fun z => by
    rw [meanA_at]; simp only [hx]; rw [len_cast, Row.mean_coe hn]
  have hv : ∀ z, varA X (ix2 r z) = (Row.var x : EReal) := fun z => by
    rw [varA_at]; simp only [hx, hm]; rw [len_cast, Row.var_ref hn]
  have hh : ∀ k, hidA (normA X a1 a2) a3 a4 (ix2 r k) = (Row.hid e x g b (fun q => w q k) (d k) : EReal) := fun k => by
    rw [hidA_at]
    simp only [normA_at, hx, hm, hv, h1, h2, h3, h4, hw, Row.sqrt_var (Row.var_nonneg x) he]
    exact Row.hid_ref he x g b (fun q => w q k) (d k)
  have ho : ∀ j, hidB (actA (hidA (normA X a1 a2) a3 a4)) a5 a6 (ix2 r j)
      = Row.outRow (fun k => Row.hid e x g b (fun q => w q k) (d k)) w2 d2 j := fun j => by
    rw [hidB_at]
    simp only [actA_at, hh, h5, h6]
    rfl
  rw [normB_at]
  simp only [varB_at, meanB_at, ho]
  rfl

end Cert.ReferenceIdeal.Own
-- ==== Proof.Math.Finite.lean ====
module

public import proofs.«01_k».proof.Proof.Gen.Pre_args_finite
public import Idealize.ShloMosaic.PureOps.Ideal.Laws
public import Idealize.ShloMosaic.Lib.ReduceAll
public import Idealize.ShloMosaic.Lib.Pointwise
public import Idealize.ShloMosaic.Lib.IdealHost

@[expose] public section

noncomputable section

namespace Cert.Pre_args_finite.Own

open Cert.Pre_args_finite Cert.Pre_args_finite.Gen
open Idealize.ShloMosaic

/-- Two bits whose conjunction is set are both set. -/
theorem both {a b : IVec S_ 1} {i : S_.Idx} (h : andi a b i = 1#1) : a i = 1#1 ∧ b i = 1#1 := by
  have h' : a i &&& b i = 1#1 := h
  revert h'
  generalize a i = p
  generalize b i = q
  revert p q
  decide

/-- The word of positive infinity. -/
theorem inf_word : Ideal.ofBits .f32 0x7F800000#32 = ⊤ := by
  simp [Ideal.ofBits, Ideal.ieee]

/-- A value whose magnitude is below infinity is a real number. -/
theorem real_of_lt {s : Shape} (a : FVec Ideal s .f32) (d : S_.BroadcastsInDim s ![]) (i : s.Idx)
    (h : cmpf .olt (Host.absf a) (broadcastInDim s ![] d (constant S_ .f32 0x7F800000#32)) i = 1#1) :
    ∃ r : ℝ, a i = (r : EReal) := by
  have h1 : (Ideal.cmp .olt (max (a i) (-(a i))) (Ideal.ofBits .f32 0x7F800000#32) : BitVec 1) = 1#1 := h
  rw [inf_word] at h1
  have h2 : max (a i) (-(a i)) < ⊤ := by
    by_contra hc
    simp [Ideal.cmp, hc] at h1
  have h3 : a i ≠ ⊤ := fun e => by rw [e] at h2; simp at h2
  have h4 : a i ≠ ⊥ := fun e => by rw [e] at h2; simp at h2
  exact ⟨(a i).toReal, (EReal.coe_toReal h3 h4).symm⟩

/-- Every element of an array whose test holds throughout is a real number. -/
theorem real_all {s : Shape} {axes : List (Fin s.rank)} (a : FVec Ideal s .f32) (d : S_.BroadcastsInDim s ![]) (init : IVec S_ 1)
    (h : s.ReducesTo axes S_) (hu : 0 < S_.numel) (j : S_.Idx)
    (e : Host.reduce IntOp.andi (cmpf .olt (Host.absf a) (broadcastInDim s ![] d (constant S_ .f32 0x7F800000#32))) init h hu j
      = 1#1) (i : s.Idx) : ∃ r : ℝ, a i = (r : EReal) :=
  real_of_lt a d i (Host.reduce_andi_all _ init h hu j e i)

/-- The precondition read: every element of the first seven arguments is a real number. -/
theorem args_real (a0 : FVec Ideal S4x2048x3072 .f32) (a1 a2 : FVec Ideal S3072 .f32) (a3 : FVec Ideal S3072x2048 .f32)
    (a4 : FVec Ideal S2048 .f32) (a5 : FVec Ideal S2048x1024 .f32) (a6 a7 a8 : FVec Ideal S1024 .f32) (j : S_.Idx)
    (h : fn (F := Ideal) a0 a1 a2 a3 a4 a5 a6 a7 a8 j = 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) := by
  unfold fn fn_part1 fn_part2 at h
  dsimp only at h
  obtain ⟨h, h6⟩ := both h
  obtain ⟨h, h5⟩ := both h
  obtain ⟨h, h4⟩ := both h
  obtain ⟨h, h3⟩ := both h
  obtain ⟨h, h2⟩ := both h
  obtain ⟨h, h1⟩ := both h
  obtain ⟨h, h0⟩ := both h
  exact ⟨real_all a0 _ _ _ _ _ h0, real_all a1 _ _ _ _ _ h1, real_all a2 _ _ _ _ _ h2, real_all a3 _ _ _ _ _ h3,
    real_all a4 _ _ _ _ _ h4, real_all a5 _ _ _ _ _ h5, real_all a6 _ _ _ _ _ h6⟩

end Cert.Pre_args_finite.Own
-- ==== Proof.Agree.lean ====
module

public import proofs.«01_k».proof.Defs
public import proofs.«01_k».proof.Proof.Ker.Value
public import proofs.«01_k».proof.Proof.Ref.Value
public import proofs.«01_k».proof.Proof.Math.Finite

@[expose] public section

set_option maxRecDepth 16384

noncomputable section

namespace Cert.Agree

open Idealize.ShloMosaic Idealize.ShloMosaic.TcCoe Idealize.SL.Sem

attribute [local instance] Cert.KernelIdeal.Gen.facts Cert.ReferenceIdeal.Gen.facts Cert.Pre_args_finite.Gen.facts

/-- The memory of the kernel's program. -/
abbrev MemK := (ℓ : Loc Cert.KernelIdeal.nD Cert.KernelIdeal.τ Cert.KernelIdeal.sig) → Buf (Elt Ideal) ℓ

/-- On arguments the precondition admits, the kernel's result is the reference's six stages of the kernel's arguments. -/
theorem result_eq (m : MemK) (hp : Pre_KernelIdeal_args_finite m) (c : Dev Cert.KernelIdeal.nD) :
    Cert.KernelIdeal.Own.outArr m c
      = Cert.ReferenceIdeal.Own.normB (F := Ideal) (Cert.ReferenceIdeal.Own.hidB (Cert.ReferenceIdeal.Own.actA
          (Cert.ReferenceIdeal.Own.hidA (Cert.ReferenceIdeal.Own.normA
            (shapeCast _ (m ((c.tc : Thread Cert.KernelIdeal.nD Cert.KernelIdeal.τ).loc Cert.KernelIdeal.main_arg0))
              Cert.ReferenceIdeal.Gen.shapeCasts_S4x2048x3072_S8192x3072)
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6)))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8)) := by
  obtain ⟨f0, f1, f2, f3, f4, f5, f6⟩ := Cert.Pre_args_finite.Own.args_real _ _ _ _ _ _ _ _ _ ix0 (congrFun (hp c) ix0)
  obtain ⟨e, he, hw⟩ := Row.eps_pos
  choose x0 hx0 using f0
  choose g hg using f1
  choose b hb using f2
  choose w hw1 using f3
  choose d hd using f4
  choose w2 hw2 using f5
  choose d2 hd2 using f6
  have hn : ((1024 : ℕ) : ℝ) ≠ 0 := by norm_num
  have main : ∀ (r : Fin 8192) (j : Fin 1024), Cert.KernelIdeal.Own.outArr m c (ix2 r j) = _ := fun r j =>
    (Cert.KernelIdeal.Own.ker_at m c e he hw r
      (fun k => x0 (Shape.reshapeEquiv Cert.KernelIdeal.Gen.shapeCasts_S4x2048x3072_S8192x3072 (ix2 r k)))
      (fun k => g (ix1 k)) (fun k => b (ix1 k)) (fun k l => w (ix2 k l)) (fun k => d (ix1 k)) (fun k l => w2 (ix2 k l))
      (fun k => d2 (ix1 k)) (fun k => by rw [Cert.KernelIdeal.Own.V_v0]; exact hx0 _)
      (fun k => hg _) (fun k => hb _) (fun k l => hw1 _) (fun k => hd _) (fun k l => hw2 _) (fun k => hd2 _) j)
  funext i
  rw [← ix2_eta i]
  obtain ⟨y, hy⟩ := Row.outRow_real (fun k => Row.hid e
      (fun k => x0 (Shape.reshapeEquiv Cert.KernelIdeal.Gen.shapeCasts_S4x2048x3072_S8192x3072 (ix2 (i 0) k)))
      (fun k => g (ix1 k)) (fun k => b (ix1 k)) (fun q => w (ix2 q k)) (d (ix1 k))) (fun k l => w2 (ix2 k l)) (fun k => d2 (ix1 k))
  refine (main (i 0) (i 1)).trans ?_
  refine Eq.trans ?_ (Cert.ReferenceIdeal.Own.ref_at e he hw _ _ _ _ _ _ _ _ _ (i 0)
      (fun k => x0 (Shape.reshapeEquiv Cert.KernelIdeal.Gen.shapeCasts_S4x2048x3072_S8192x3072 (ix2 (i 0) k)))
      (fun k => g (ix1 k)) (fun k => b (ix1 k)) (fun k l => w (ix2 k l)) (fun k => d (ix1 k)) (fun k l => w2 (ix2 k l))
      (fun k => d2 (ix1 k)) (fun k => hx0 _)
      (fun k => hg _) (fun k => hb _) (fun k l => hw1 _) (fun k => hd _) (fun k l => hw2 _) (fun k => hd2 _) (i 1)).symm
  rw [Cert.ReferenceIdeal.Own.len_cast']
  exact Row.last_agree hn _ y hy _ _ _

/-- The frame of the kernel's ideal program. -/
theorem frame_kernel : quiescent_KernelIdeal := fun m g _ =>
  (θ_run Cert.KernelIdeal.defs _ _).mono (fun r h => ⟨fun c => (h.1 c).2, h.2⟩) (Cert.KernelIdeal.Own.run_val (F := Ideal) m g)

/-- The frame of the reference: it declares no semaphore. -/
theorem frame_reference : quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The two programs end with equal results. -/
theorem algebraic : algebraic_KernelIdeal_ReferenceIdeal_pre_args_finite := by
  intro m g m' g' hp hag
  refine ⟨fun c => Cert.KernelIdeal.Own.outArr m c, ?_, ?_⟩
  · exact (θ_run Cert.KernelIdeal.defs _ _).mono (fun r h c => h.1 c) (Cert.KernelIdeal.Own.run_val (F := Ideal) m g)
  · refine (θ_run Cert.ReferenceIdeal.defs _ _).mono (fun r h c => ⟨(h c).1.trans ?_, (h c).2⟩)
      (Cert.ReferenceIdeal.Value.run (F := Ideal) m' g')
    obtain ⟨a0, a1, a2, a3, a4, a5, a6, a7, a8⟩ := hag c
    rw [Cert.ReferenceIdeal.Own.res_eq, a0, a1, a2, a3, a4, a5, a6, a7, a8]
    exact (result_eq m hp c).symm

end Cert.Agree
-- ==== Proof.Program.lean ====
module

public import proofs.«01_k».proof.Defs
public import proofs.«01_k».proof.Proof.Gen.Kernel
public import proofs.«01_k».proof.Proof.Ker.Final

@[expose] public section

set_option maxRecDepth 65536

noncomputable section

namespace Cert.Agree

open Idealize.ShloMosaic Idealize.ShloMosaic.TcCoe Idealize.SL.Sem

attribute [local instance] Cert.KernelIdeal.Gen.facts Cert.Kernel.Gen.facts

/-- The two programs declare the same buffers and semaphores. -/
theorem sig_same : Cert.Kernel.sig = Cert.KernelIdeal.sig := rfl

/-- The two programs run the same host part. -/
theorem main_same : (Cert.Kernel.main (F := Bits)) = (Cert.KernelIdeal.main (F := Bits)) := rfl

/-- The kernel body's first stretch is the same in both programs. -/
theorem part1_same : @Cert.Kernel.k0_part1 Bits _ _ = @Cert.KernelIdeal.k0_part1 Bits _ _ := rfl

/-- The kernel body's second stretch is the same in both programs. -/
theorem part2_same : @Cert.Kernel.k0_part2 Bits _ _ = @Cert.KernelIdeal.k0_part2 Bits _ _ := rfl

/-- The kernel body is the same in both programs. -/
theorem body_same : @Cert.Kernel.cc0__adapter_block Bits _ _ = @Cert.KernelIdeal.cc0__adapter_block Bits _ _ := rfl

/-- The two programs give their labels the same bodies. -/
theorem defs₀_same : (Cert.Kernel.defs₀ (F := Bits)) = (Cert.KernelIdeal.defs₀ (F := Bits)) := by
  unfold Cert.Kernel.defs₀ Cert.KernelIdeal.defs₀
  refine congrArg _ (funext fun l => funext fun a => ?_)
  match l, a with
  | 0, (t, s) => rfl

/-- The two programs run the same bodies under the same pipelines. -/
theorem defs_same : (Cert.Kernel.defs (F := Bits)) = (Cert.KernelIdeal.defs (F := Bits)) :=
  congrArg (Pipeline.defs (Cert.KernelIdeal.pcfgs (F := Bits))) defs₀_same

/-- The frame of the kernel's program: the run of its ideal text, read at bits. -/
theorem frame_program : quiescent_Kernel := fun m g _ => by
  rw [main_same, defs_same]
  exact (θ_run Cert.KernelIdeal.defs _ _).mono (fun r h => ⟨fun c => (h.1 c).2, h.2⟩)
    (Cert.KernelIdeal.Own.run_val (F := Bits) m g)

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_args_finite
public import proofs.«01_k».proof.Proof.Agree
public import proofs.«01_k».proof.Proof.Program
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Pre_args_finite.Gen.facts,
    Cert.Agree.frame_program,
    Cert.Agree.frame_kernel,
    fun m g _ => Cert.Agree.frame_kernel m g trivial,
    Cert.Agree.frame_reference,
    fun m g _ => Cert.Agree.frame_reference m g trivial,
    trivial,
    Cert.Agree.algebraic⟩

end Cert.Proof

end
